-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_data [hPre_finite_data : Cert.Pre_finite_data.Facts] (m : (ℓ : Loc Cert.KernelIdeal.nD Cert.KernelIdeal.τ Cert.KernelIdeal.sig) → Buf (Elt Ideal) ℓ) : Prop :=
  ∀ c : Dev Cert.KernelIdeal.nD,
    (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_data [hPre_finite_data : Cert.Pre_finite_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_data [hKernelIdeal : Cert.KernelIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_data [hReferenceIdeal : Cert.ReferenceIdeal.Facts] [hPre_finite_data : Cert.Pre_finite_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_data [hKernelIdeal : Cert.KernelIdeal.Facts] [hReferenceIdeal : Cert.ReferenceIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_data : Cert.Pre_finite_data.Facts),
    quiescent_Kernel (hKernel := hKernel)
    ∧ quiescent_KernelIdeal (hKernelIdeal := hKernelIdeal)
    ∧ quiescent_KernelIdeal_pre_finite_data (hKernelIdeal := hKernelIdeal) (hPre_finite_data := hPre_finite_data)
    ∧ quiescent_ReferenceIdeal (hReferenceIdeal := hReferenceIdeal)
    ∧ quiescent_ReferenceIdeal_pre_finite_data (hReferenceIdeal := hReferenceIdeal) (hPre_finite_data := hPre_finite_data)
    ∧ preserves_Kernel_KernelIdeal
    ∧ algebraic_KernelIdeal_ReferenceIdeal_pre_finite_data (hKernelIdeal := hKernelIdeal) (hReferenceIdeal := hReferenceIdeal) (hPre_finite_data := hPre_finite_data)
-- ==== Pre_finite_data.lean ====
abbrev S100000x8 : Shape := ⟨2, ![100000, 8]⟩
abbrev S64x584 : Shape := ⟨2, ![64, 584]⟩
abbrev S64 : Shape := ⟨1, ![64]⟩
abbrev S1024x64 : Shape := ⟨2, ![1024, 64]⟩
abbrev S_ : Shape := ⟨0, ![]⟩

class Facts : Prop where
  bcast_S_S100000x8 : S_.BroadcastsInDim S100000x8 (![] : Fin 0 → Fin S100000x8.rank)

variable [Facts]

def fn {F : FTy → Type} [FloatOps F] (main_arg0 : FVec F S100000x8 .f32) (main_arg1 : FVec F S64x584 .f32) (main_arg2 : FVec F S64 .f32) (main_arg3 : FVec F S1024x64 .f32) : IVec S100000x8 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  main_v2
-- ==== Kernel.lean ====
abbrev S100000x8 : Shape := ⟨2, ![100000, 8]⟩
abbrev S64x584 : Shape := ⟨2, ![64, 584]⟩
abbrev S64 : Shape := ⟨1, ![64]⟩
abbrev S1024x64 : Shape := ⟨2, ![1024, 64]⟩
abbrev S_ : Shape := ⟨0, ![]⟩
abbrev S2800x8 : Shape := ⟨2, ![2800, 8]⟩
abbrev S102800x8 : Shape := ⟨2, ![102800, 8]⟩
abbrev S2056x50x8 : Shape := ⟨3, ![2056, 50, 8]⟩
abbrev S2056x8x50 : Shape := ⟨3, ![2056, 8, 50]⟩
abbrev S1x64 : Shape := ⟨2, ![1, 64]⟩
abbrev S8x1x256 : Shape := ⟨3, ![8, 1, 256]⟩
abbrev S2048x64 : Shape := ⟨2, ![2048, 64]⟩
abbrev S256x8x50 : Shape := ⟨3, ![256, 8, 50]⟩
abbrev S8x8x50 : Shape := ⟨3, ![8, 8, 50]⟩
abbrev S1x1x256 : Shape := ⟨3, ![1, 1, 256]⟩
abbrev S256x64 : Shape := ⟨2, ![256, 64]⟩
abbrev S255x8x50 : Shape := ⟨3, ![255, 8, 50]⟩
abbrev S1x8x50 : Shape := ⟨3, ![1, 8, 50]⟩
abbrev S256x8x29 : Shape := ⟨3, ![256, 8, 29]⟩
abbrev S256x8x49 : Shape := ⟨3, ![256, 8, 49]⟩
abbrev S256x8x128 : Shape := ⟨3, ![256, 8, 128]⟩
abbrev S256x8x1 : Shape := ⟨3, ![256, 8, 1]⟩
abbrev S256x8x1x128 : Shape := ⟨4, ![256, 8, 1, 128]⟩
abbrev S256x1x8x128 : Shape := ⟨4, ![256, 1, 8, 128]⟩
abbrev S256x8x8x128 : Shape := ⟨4, ![256, 8, 8, 128]⟩
abbrev S256x64x128 : Shape := ⟨3, ![256, 64, 128]⟩
abbrev S256x64x256 : Shape := ⟨3, ![256, 64, 256]⟩
abbrev S256x8x256 : Shape := ⟨3, ![256, 8, 256]⟩
abbrev S256x16x256 : Shape := ⟨3, ![256, 16, 256]⟩
abbrev S256x64x16 : Shape := ⟨3, ![256, 64, 16]⟩
abbrev S256x8 : Shape := ⟨2, ![256, 8]⟩
abbrev S256x64x1 : Shape := ⟨3, ![256, 64, 1]⟩
abbrev S256x64x8 : Shape := ⟨3, ![256, 64, 8]⟩
abbrev S256x512 : Shape := ⟨2, ![256, 512]⟩
abbrev S256x584 : Shape := ⟨2, ![256, 584]⟩
abbrev S1024 : Shape := ⟨1, ![1024]⟩
abbrev S256 : Shape := ⟨1, ![256]⟩
abbrev S256x1 : Shape := ⟨2, ![256, 1]⟩
abbrev S1x1024 : Shape := ⟨2, ![1, 1024]⟩
abbrev S256x1024 : Shape := ⟨2, ![256, 1024]⟩
abbrev S2048 : Shape := ⟨1, ![2048]⟩
abbrev S1999 : Shape := ⟨1, ![1999]⟩
abbrev S1999x64 : Shape := ⟨2, ![1999, 64]⟩

abbrev nBuf : Space → Nat
  | .hbm => 15
  | .vmem => 11
  | .smem => 0
  | _ => 0

abbrev bufTy : (tb : Table) → Fin (tcTables nBuf tb) → BufTy
  | .hbm, ⟨0, _⟩ => ⟨S100000x8, .f32⟩
  | .hbm, ⟨1, _⟩ => ⟨S64x584, .f32⟩
  | .hbm, ⟨2, _⟩ => ⟨S64, .f32⟩
  | .hbm, ⟨3, _⟩ => ⟨S1024x64, .f32⟩
  | .hbm, ⟨4, _⟩ => ⟨S_, .f32⟩
  | .hbm, ⟨5, _⟩ => ⟨S2800x8, .f32⟩
  | .hbm, ⟨6, _⟩ => ⟨S102800x8, .f32⟩
  | .hbm, ⟨7, _⟩ => ⟨S2056x50x8, .f32⟩
  | .hbm, ⟨8, _⟩ => ⟨S2056x8x50, .f32⟩
  | .hbm, ⟨9, _⟩ => ⟨S1x64, .f32⟩
  | .hbm, ⟨10, _⟩ => ⟨S8x1x256, .i32⟩
  | .hbm, ⟨11, _⟩ => ⟨S2048x64, .f32⟩
  | .hbm, ⟨12, _⟩ => ⟨S2048, .i32⟩
  | .hbm, ⟨13, _⟩ => ⟨S1999, .i32⟩
  | .hbm, ⟨14, _⟩ => ⟨S1999x64, .f32⟩
  | .local _ .vmem, ⟨0, _⟩ => ⟨S256x8x50, .f32⟩
  | .local _ .vmem, ⟨1, _⟩ => ⟨S256x8x50, .f32⟩
  | .local _ .vmem, ⟨2, _⟩ => ⟨S8x8x50, .f32⟩
  | .local _ .vmem, ⟨3, _⟩ => ⟨S8x8x50, .f32⟩
  | .local _ .vmem, ⟨4, _⟩ => ⟨S64x584, .f32⟩
  | .local _ .vmem, ⟨5, _⟩ => ⟨S1x64, .f32⟩
  | .local _ .vmem, ⟨6, _⟩ => ⟨S1024x64, .f32⟩
  | .local _ .vmem, ⟨7, _⟩ => ⟨S1x1x256, .i32⟩
  | .local _ .vmem, ⟨8, _⟩ => ⟨S1x1x256, .i32⟩
  | .local _ .vmem, ⟨9, _⟩ => ⟨S256x64, .f32⟩
  | .local _ .vmem, ⟨10, _⟩ => ⟨S256x64, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S100000x8 : Shape := ⟨2, ![100000, 8]⟩
abbrev S64x584 : Shape := ⟨2, ![64, 584]⟩
abbrev S64 : Shape := ⟨1, ![64]⟩
abbrev S1024x64 : Shape := ⟨2, ![1024, 64]⟩
abbrev S1999 : Shape := ⟨1, ![1999]⟩
abbrev S_ : Shape := ⟨0, ![]⟩
abbrev S1999x1 : Shape := ⟨2, ![1999, 1]⟩
abbrev S100 : Shape := ⟨1, ![100]⟩
abbrev S1x100 : Shape := ⟨2, ![1, 100]⟩
abbrev S1999x100 : Shape := ⟨2, ![1999, 100]⟩
abbrev S1999x100x1 : Shape := ⟨3, ![1999, 100, 1]⟩
abbrev S1999x100x8 : Shape := ⟨3, ![1999, 100, 8]⟩
abbrev S1999x99x8 : Shape := ⟨3, ![1999, 99, 8]⟩
abbrev S8 : Shape := ⟨1, ![8]⟩
abbrev S8x8 : Shape := ⟨2, ![8, 8]⟩
abbrev S8x8x8 : Shape := ⟨3, ![8, 8, 8]⟩
abbrev S1999x8 : Shape := ⟨2, ![1999, 8]⟩
abbrev S1999x8x8 : Shape := ⟨3, ![1999, 8, 8]⟩
abbrev S1999x8x8x8 : Shape := ⟨4, ![1999, 8, 8, 8]⟩
abbrev S99x1999x8 : Shape := ⟨3, ![99, 1999, 8]⟩
abbrev S1x1999x8 : Shape := ⟨3, ![1, 1999, 8]⟩
abbrev S1999x8x1 : Shape := ⟨3, ![1999, 8, 1]⟩
abbrev S1999x1x8 : Shape := ⟨3, ![1999, 1, 8]⟩
abbrev S1999x8x1x1 : Shape := ⟨4, ![1999, 8, 1, 1]⟩
abbrev S1999x1x8x1 : Shape := ⟨4, ![1999, 1, 8, 1]⟩
abbrev S1999x8x8x1 : Shape := ⟨4, ![1999, 8, 8, 1]⟩
abbrev S1999x1x1x8 : Shape := ⟨4, ![1999, 1, 1, 8]⟩
abbrev S1999x1x8x8 : Shape := ⟨4, ![1999, 1, 8, 8]⟩
abbrev S1999x64 : Shape := ⟨2, ![1999, 64]⟩
abbrev S1999x512 : Shape := ⟨2, ![1999, 512]⟩
abbrev S1999x584 : Shape := ⟨2, ![1999, 584]⟩
abbrev S584x64 : Shape := ⟨2, ![584, 64]⟩
abbrev S1x64 : Shape := ⟨2, ![1, 64]⟩
abbrev S1024 : Shape := ⟨1, ![1024]⟩
abbrev S1x1024 : Shape := ⟨2, ![1, 1024]⟩
abbrev S1999x1024 : Shape := ⟨2, ![1999, 1024]⟩
abbrev S64x1024 : Shape := ⟨2, ![64, 1024]⟩

abbrev nBuf : Space → Nat
  | .hbm => 122
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S64x584, .f32⟩
  | .hbm, ⟨2, _⟩ => ⟨S64, .f32⟩
  | .hbm, ⟨3, _⟩ => ⟨S1024x64, .f32⟩
  | .hbm, ⟨4, _⟩ => ⟨S1999, .i32⟩
  | .hbm, ⟨5, _⟩ => ⟨S_, .i32⟩
  | .hbm, ⟨6, _⟩ => ⟨S1999, .i32⟩
  | .hbm, ⟨7, _⟩ => ⟨S1999, .i32⟩
  | .hbm, ⟨8, _⟩ => ⟨S1999x1, .i32⟩
  | .hbm, ⟨9, _⟩ => ⟨S100, .i32⟩
  | .hbm, ⟨10, _⟩ => ⟨S1x100, .i32⟩
  | .hbm, ⟨11, _⟩ => ⟨S1999x100, .i32⟩
  | .hbm, ⟨12, _⟩ => ⟨S1999x100, .i32⟩
  | .hbm, ⟨13, _⟩ => ⟨S1999x100, .i32⟩
  | .hbm, ⟨14, _⟩ => ⟨S_, .i32⟩
  | .hbm, ⟨15, _⟩ => ⟨S1999x100, .i32⟩
  | .hbm, ⟨16, _⟩ => ⟨S1999x100, .i1⟩
  | .hbm, ⟨17, _⟩ => ⟨S_, .i32⟩
  | .hbm, ⟨18, _⟩ => ⟨S1999x100, .i32⟩
  | .hbm, ⟨19, _⟩ => ⟨S1999x100, .i32⟩
  | .hbm, ⟨20, _⟩ => ⟨S1999x100, .i32⟩
  | .hbm, ⟨21, _⟩ => ⟨S1999x100x1, .i32⟩
  | .hbm, ⟨22, _⟩ => ⟨S1999x100x8, .f32⟩
  | .hbm, ⟨23, _⟩ => ⟨S1999x99x8, .f32⟩
  | .hbm, ⟨24, _⟩ => ⟨S1999x99x8, .f32⟩
  | .hbm, ⟨25, _⟩ => ⟨S1999x99x8, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8x8, .f32⟩
  | .hbm, ⟨30, _⟩ => ⟨S_, .f32⟩
  | .hbm, ⟨31, _⟩ => ⟨S8x8x8, .f32⟩
  | .hbm, ⟨32, _⟩ => ⟨S1999x8, .f32⟩
  | .hbm, ⟨33, _⟩ => ⟨S1999x8x8, .f32⟩
  | .hbm, ⟨34, _⟩ => ⟨S1999x8x8x8, .f32⟩
  | .hbm, ⟨35, _⟩ => ⟨S99x1999x8, .f32⟩
  | .hbm, ⟨36, _⟩ => ⟨S_, .i32⟩
  | .hbm, ⟨37, _⟩ => ⟨S99x1999x8, .f32⟩
  | .hbm, ⟨38, _⟩ => ⟨S_, .i32⟩
  | .hbm, ⟨39, _⟩ => ⟨S1999x8, .f32⟩
  | .hbm, ⟨40, _⟩ => ⟨S1999x8x8, .f32⟩
  | .hbm, ⟨41, _⟩ => ⟨S1999x8x8x8, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S1x1999x8, .f32⟩
  | .hbm, ⟨47, _⟩ => ⟨S1999x8, .f32⟩
  | .hbm, ⟨48, _⟩ => ⟨S1999x8x1, .f32⟩
  | .hbm, ⟨49, _⟩ => ⟨S1999x1x8, .f32⟩
  | .hbm, ⟨50, _⟩ => ⟨S1999x8x8, .f32⟩
  | .hbm, ⟨51, _⟩ => ⟨S1999x8x8, .f32⟩
  | .hbm, ⟨52, _⟩ => ⟨S1999x8x8, .f32⟩
  | .hbm, ⟨53, _⟩ => ⟨S_, .f32⟩
  | .hbm, ⟨54, _⟩ => ⟨S1999x8x8, .f32⟩
  | .hbm, ⟨55, _⟩ => ⟨S1999x8x8, .f32⟩
  | .hbm, ⟨56, _⟩ => ⟨S1999x8x1x1, .f32⟩
  | .hbm, ⟨57, _⟩ => ⟨S1999x1x8x1, .f32⟩
  | .hbm, ⟨58, _⟩ => ⟨S1999x8x8x1, .f32⟩
  | .hbm, ⟨59, _⟩ => ⟨S1999x8x8x1, .f32⟩
  | .hbm, ⟨60, _⟩ => ⟨S1999x8x8x1, .f32⟩
  | .hbm, ⟨61, _⟩ => ⟨S1999x1x1x8, .f32⟩
  | .hbm, ⟨62, _⟩ => ⟨S1999x8x8x8, .f32⟩
  | .hbm, ⟨63, _⟩ => ⟨S1999x8x8x8, .f32⟩
  | .hbm, ⟨64, _⟩ => ⟨S1999x8x8x8, .f32⟩
  | .hbm, ⟨65, _⟩ => ⟨S_, .f32⟩
  | .hbm, ⟨66, _⟩ => ⟨S1999x8x8x8, .f32⟩
  | .hbm, ⟨67, _⟩ => ⟨S1999x8x8x8, .f32⟩
  | .hbm, ⟨68, _⟩ => ⟨S1999x8, .f32⟩
  | .hbm, ⟨69, _⟩ => ⟨S1999x8x8, .f32⟩
  | .hbm, ⟨70, _⟩ => ⟨S1999x8x1, .f32⟩
  | .hbm, ⟨71, _⟩ => ⟨S1999x1x8, .f32⟩
  | .hbm, ⟨72, _⟩ => ⟨S1999x8x8, .f32⟩
  | .hbm, ⟨73, _⟩ => ⟨S1999x8x8, .f32⟩
  | .hbm, ⟨74, _⟩ => ⟨S1999x8x8, .f32⟩
  | .hbm, ⟨75, _⟩ => ⟨S1999x8x8, .f32⟩
  | .hbm, ⟨76, _⟩ => ⟨S1999x8x8x8, .f32⟩
  | .hbm, ⟨77, _⟩ => ⟨S1999x8x1x1, .f32⟩
  | .hbm, ⟨78, _⟩ => ⟨S1999x1x8x8, .f32⟩
  | .hbm, ⟨79, _⟩ => ⟨S1999x8x8x8, .f32⟩
  | .hbm, ⟨80, _⟩ => ⟨S1999x8x8x8, .f32⟩
  | .hbm, ⟨81, _⟩ => ⟨S1999x8x8x8, .f32⟩
  | .hbm, ⟨82, _⟩ => ⟨S1999x8x8x8, .f32⟩
  | .hbm, ⟨83, _⟩ => ⟨S1999x8x8x1, .f32⟩
  | .hbm, ⟨84, _⟩ => ⟨S1999x1x1x8, .f32⟩
  | .hbm, ⟨85, _⟩ => ⟨S1999x8x8x8, .f32⟩
  | .hbm, ⟨86, _⟩ => ⟨S1999x8x8x8, .f32⟩
  | .hbm, ⟨87, _⟩ => ⟨S1999x8x8x8, .f32⟩
  | .hbm, ⟨88, _⟩ => ⟨S1999x8x8x8, .f32⟩
  | .hbm, ⟨89, _⟩ => ⟨S_, .i32⟩
  | .hbm, ⟨90, _⟩ => ⟨S_, .i32⟩
  | .hbm, ⟨91, _⟩ => ⟨S1999x64, .f32⟩
  | .hbm, ⟨92, _⟩ => ⟨S1999x512, .f32⟩
  | .hbm, ⟨93, _⟩ => ⟨S1999x584, .f32⟩
  | .hbm, ⟨94, _⟩ => ⟨S584x64, .f32⟩
  | .hbm, ⟨95, _⟩ => ⟨S1999x64, .f32⟩
  | .hbm, ⟨96, _⟩ => ⟨S1x64, .f32⟩
  | .hbm, ⟨97, _⟩ => ⟨S1999x64, .f32⟩
  | .hbm, ⟨98, _⟩ => ⟨S1999x64, .f32⟩
  | .hbm, ⟨99, _⟩ => ⟨S1999x64, .f32⟩
  | .hbm, ⟨100, _⟩ => ⟨S_, .f32⟩
  | .hbm, ⟨101, _⟩ => ⟨S1999, .f32⟩
  | .hbm, ⟨102, _⟩ => ⟨S1999x1, .f32⟩
  | .hbm, ⟨103, _⟩ => ⟨S1024x64, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S1999x1024, .f32⟩
  | .hbm, ⟨108, _⟩ => ⟨S1999x1024, .f32⟩
  | .hbm, ⟨109, _⟩ => ⟨S1999x1024, .f32⟩
  | .hbm, ⟨110, _⟩ => ⟨S64x1024, .f32⟩
  | .hbm, ⟨111, _⟩ => ⟨S1999x1024, .f32⟩
  | .hbm, ⟨112, _⟩ => ⟨S_, .f32⟩
  | .hbm, ⟨113, _⟩ => ⟨S1999x1024, .f32⟩
  | .hbm, ⟨114, _⟩ => ⟨S1999x1024, .f32⟩
  | .hbm, ⟨115, _⟩ => ⟨S1999x1024, .f32⟩
  | .hbm, ⟨116, _⟩ => ⟨S1999x1024, .f32⟩
  | .hbm, ⟨117, _⟩ => ⟨S1999x1024, .i32⟩
  | .hbm, ⟨118, _⟩ => ⟨S_, .f32⟩
  | .hbm, ⟨119, _⟩ => ⟨S_, .i32⟩
  | .hbm, ⟨120, _⟩ => ⟨S1999, .f32⟩
  | .hbm, ⟨121, _⟩ => ⟨S1999, .i32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_while0c_c_12 : Ref sig .tc := ⟨.hbm, 42, rfl⟩
abbrev main_while0c_v49 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v49 : Ref sig .tc := ⟨.hbm, 47, rfl⟩
abbrev main_while0b_v50 : Ref sig .tc := ⟨.hbm, 48, rfl⟩
abbrev main_while0b_v51 : Ref sig .tc := ⟨.hbm, 49, rfl⟩
abbrev main_while0b_v52 : Ref sig .tc := ⟨.hbm, 50, rfl⟩
abbrev main_while0b_v53 : Ref sig .tc := ⟨.hbm, 51, rfl⟩
abbrev main_while0b_v54 : Ref sig .tc := ⟨.hbm, 52, rfl⟩
abbrev main_while0b_cst_12 : Ref sig .tc := ⟨.hbm, 53, rfl⟩
abbrev main_while0b_v55 : Ref sig .tc := ⟨.hbm, 54, rfl⟩
abbrev main_while0b_v56 : Ref sig .tc := ⟨.hbm, 55, rfl⟩
abbrev main_while0b_v57 : Ref sig .tc := ⟨.hbm, 56, rfl⟩
abbrev main_while0b_v58 : Ref sig .tc := ⟨.hbm, 57, rfl⟩
abbrev main_while0b_v59 : Ref sig .tc := ⟨.hbm, 58, rfl⟩
abbrev main_while0b_v60 : Ref sig .tc := ⟨.hbm, 59, rfl⟩
abbrev main_while0b_v61 : Ref sig .tc := ⟨.hbm, 60, rfl⟩
abbrev main_while0b_v62 : Ref sig .tc := ⟨.hbm, 61, rfl⟩
abbrev main_while0b_v63 : Ref sig .tc := ⟨.hbm, 62, rfl⟩
abbrev main_while0b_v64 : Ref sig .tc := ⟨.hbm, 63, rfl⟩
abbrev main_while0b_v65 : Ref sig .tc := ⟨.hbm, 64, rfl⟩
abbrev main_while0b_cst_13 : Ref sig .tc := ⟨.hbm, 65, rfl⟩
abbrev main_while0b_v66 : Ref sig .tc := ⟨.hbm, 66, rfl⟩
abbrev main_while0b_v67 : Ref sig .tc := ⟨.hbm, 67, rfl⟩
abbrev main_while0b_v68 : Ref sig .tc := ⟨.hbm, 68, rfl⟩
abbrev main_while0b_v69 : Ref sig .tc := ⟨.hbm, 69, rfl⟩
abbrev main_while0b_v70 : Ref sig .tc := ⟨.hbm, 70, rfl⟩
abbrev main_while0b_v71 : Ref sig .tc := ⟨.hbm, 71, rfl⟩
abbrev main_while0b_v72 : Ref sig .tc := ⟨.hbm, 72, rfl⟩
abbrev main_while0b_v73 : Ref sig .tc := ⟨.hbm, 73, rfl⟩
abbrev main_while0b_v74 : Ref sig .tc := ⟨.hbm, 74, rfl⟩
abbrev main_while0b_v75 : Ref sig .tc := ⟨.hbm, 75, rfl⟩
abbrev main_while0b_v76 : Ref sig .tc := ⟨.hbm, 76, rfl⟩
abbrev main_while0b_v77 : Ref sig .tc := ⟨.hbm, 77, rfl⟩
abbrev main_while0b_v78 : Ref sig .tc := ⟨.hbm, 78, rfl⟩
abbrev main_while0b_v79 : Ref sig .tc := ⟨.hbm, 79, rfl⟩
abbrev main_while0b_v80 : Ref sig .tc := ⟨.hbm, 80, rfl⟩
abbrev main_while0b_v81 : Ref sig .tc := ⟨.hbm, 81, rfl⟩
abbrev main_while0b_v82 : Ref sig .tc := ⟨.hbm, 82, rfl⟩
abbrev main_while0b_v83 : Ref sig .tc := ⟨.hbm, 83, rfl⟩
abbrev main_while0b_v84 : Ref sig .tc := ⟨.hbm, 84, rfl⟩
abbrev main_while0b_v85 : Ref sig .tc := ⟨.hbm, 85, rfl⟩
abbrev main_while0b_v86 : Ref sig .tc := ⟨.hbm, 86, rfl⟩
abbrev main_while0b_v87 : Ref sig .tc := ⟨.hbm, 87, rfl⟩
abbrev main_while0b_v88 : Ref sig .tc := ⟨.hbm, 88, rfl⟩
abbrev main_while0b_c_14 : Ref sig .tc := ⟨.hbm, 89, rfl⟩
abbrev main_while0b_v89 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_cst_5 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_cst_6 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_cst_7 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_call2_v0 : Ref sig .tc := ⟨.hbm, 117, rfl⟩
abbrev main_call2_cst : Ref sig .tc := ⟨.hbm, 118, rfl⟩
abbrev main_call2_c : Ref sig .tc := ⟨.hbm, 119, rfl⟩
abbrev main_call2_v1_0 : Ref sig .tc := ⟨.hbm, 120, rfl⟩
abbrev main_v48 : Ref sig .tc := ⟨.hbm, 121, rfl⟩

abbrev nD : Nat := 1
abbrev τ : Topo := Topo.v7x

variable {F : FTy → Type} [FloatOps F]

abbrev main_while0_count : Scf.Loop 32 := ⟨0#32, 99#32, 1#32⟩
-- ==== Proof.KernelBlocks.lean ====
/- What the kernel's region finds in its arrays, and the blocks each grid point loads, element by element. -/
module

public import proofs.«01_k».proof.Proof.Gen.KernelIdeal.Frame
public import Idealize.ShloMosaic.Lib.Pipeline.Value
public import Idealize.ShloMosaic.Lib.Claim
public import Idealize.ShloMosaic.Lib.Pipeline.ValueKit
public import Idealize.ShloMosaic.Lib.StableHlo.ReadAt
public import Idealize.ShloMosaic.Lib.Pointwise
public import Idealize.ShloMosaic.Lib.Tactic.CleanTypes

@[expose] public section

set_option maxRecDepth 16384

noncomputable section

namespace Cert.KernelIdeal.Value

open Idealize.ShloMosaic Idealize.ShloMosaic.TcCoe Cert.KernelIdeal Cert.KernelIdeal.Gen Idealize.SL.Sem

variable (m : (ℓ : Loc nD τ sig) → Buf (Elt Ideal) ℓ) (c : Dev nD)

/-- The table of points. -/
def data : FVec Ideal S100000x8 .f32 := m ((c.tc : Thread nD τ).loc main_arg0)

/-- The chunks of fifty points, as the region finds them. -/
def chunks : FVec Ideal S2056x8x50 .f32 := V m c main_v3

theorem chunks_apply (r : Fin 2056) (ch : Fin 8) (l : Fin 50) :
    chunks m c (ix3 r ch l) = if h : 50 * r.1 + l.1 < 100000 then data m c (ix2 ⟨50 * r.1 + l.1, h⟩ ch) else 0 := by
  have e : chunks m c = transpose S2056x8x50 [0, 2, 1] (shapeCast S2056x50x8 (concatenate S102800x8 0
      [⟨S100000x8, data m c⟩, ⟨S2800x8, broadcastInDim S2800x8 ![] bcast_S_S2800x8 (constant (F := Ideal) S_ .f32 0x00000000#32)⟩]
      concatenates_S100000x8_S2800x8_S102800x8_d0) shapeCasts_S102800x8_S2056x50x8) transposes_S2056x50x8_S2056x8x50_0_2_1 := by
    unfold chunks
    entry_read
    rfl
  rw [e]
  generalize data m c = d
  pointwise []
  simp only [Nat.mul_comm 50]

/-- The block each grid point stages, window by window. -/
theorem idx : ∀ t : Fin cfg0.N, win0_0.index t = ![t.val, 0, 0] ∧ win0_1.index t = ![(t.val + 1) * 32, 0, 0]
    ∧ win0_2.index t = ![0, 0] ∧ win0_3.index t = ![0, 0] ∧ win0_4.index t = ![0, 0]
    ∧ win0_5.index t = ![t.val, 0, 0] ∧ win0_6.index t = ![t.val, 0] := by
  decide +kernel

theorem point_lt (t : Fin cfg0.N) : t.1 < 8 := t.2

theorem X0_apply (t : Fin cfg0.N) (r : Fin 256) (ch : Fin 8) (l : Fin 50) :
    X0_0 m c t (ix3 r ch l) = chunks m c (ix3 ⟨256 * t.1 + r.1, by have := point_lt t; omega⟩ ch l) := by
  unfold X0_0 Pipeline.Window.fill
  rw [dif_pos (moved0_0 t _)]
  unfold iblk
  blk_simp
  obtain ⟨h0, h1, h2, h3, h4, h5, h6⟩ := idx t
  change chunks m c _ = _
  blk_ext [h0]

theorem next_apply (t : Fin cfg0.N) (r : Fin 8) (ch : Fin 8) (l : Fin 50) :
    iblk m c 1 t (ix3 r ch l) = chunks m c (ix3 ⟨256 * t.1 + 256 + r.1, by have := point_lt t; omega⟩ ch l) := by
  unfold iblk
  blk_simp
  obtain ⟨h0, h1, h2, h3, h4, h5, h6⟩ := idx t
  change chunks m c _ = _
  blk_ext [h1]

theorem weight_apply (t : Fin cfg0.N) (e : Fin 64) (q : Fin 584) :
    iblk m c 2 t (ix2 e q) = m ((c.tc : Thread nD τ).loc main_arg1) (ix2 e q) := by
  unfold iblk
  rw [V_main_arg1]
  blk_simp
  obtain ⟨h0, h1, h2, h3, h4, h5, h6⟩ := idx t
  blk_ext [h2]

/-- The bias as the region finds it, a row. -/
def biasRow : FVec Ideal S1x64 .f32 := V m c main_v4

theorem biasRow_eq : biasRow m c
    = shapeCast S1x64 (m ((c.tc : Thread nD τ).loc main_arg2) : FVec Ideal S64 .f32) shapeCasts_S64_S1x64 := by
  unfold biasRow
  entry_read
  rfl

theorem bias_apply (t : Fin cfg0.N) (e : Fin 64) : iblk m c 3 t (ix2 0 e) = m ((c.tc : Thread nD τ).loc main_arg2) (ix1 e) := by
  have hv : ∀ z : S1x64.Idx, biasRow m c z = m ((c.tc : Thread nD τ).loc main_arg2) (ix1 (z 1)) := by
    intro z
    rw [biasRow_eq]
    pointwise []
  unfold iblk
  blk_simp
  obtain ⟨h0, h1, h2, h3, h4, h5, h6⟩ := idx t
  change biasRow m c _ = _
  rw [hv]
  blk_ext [h3]

theorem book_apply (t : Fin cfg0.N) (k : Fin 1024) (e : Fin 64) :
    iblk m c 4 t (ix2 k e) = m ((c.tc : Thread nD τ).loc main_arg3) (ix2 k e) := by
  unfold iblk
  rw [V_main_arg3]
  blk_simp
  obtain ⟨h0, h1, h2, h3, h4, h5, h6⟩ := idx t
  blk_ext [h4]

end Cert.KernelIdeal.Value

end
-- ==== Proof.Sig.lean ====
/- The depth-3 signature of a path, over the reals: the sum the kernel evaluates in one product, and the recursion along the
   path that it satisfies. -/
module

public import Mathlib.Algebra.BigOperators.Ring.Finset
public import Mathlib.Algebra.BigOperators.Fin
public import Mathlib.Data.Real.Basic
public import Mathlib.Tactic.Ring
public import Mathlib.Tactic.LinearCombination

@[expose] public section

noncomputable section

namespace Cert.Sig

open Finset

variable (x : ℕ → ℕ → ℝ)

/-- The increment of step `t`. -/
def vel (t : ℕ) (i : ℕ) : ℝ := x (t + 1) i - x t i

/-- The level-1 term before step `t`, plus half its increment. -/
def half (t : ℕ) (i : ℕ) : ℝ := (x t i - x 0 i) + 1 / 2 * vel x t i

/-- A sixth of the increment, plus half the level-1 term before step `t`. -/
def sixth (t : ℕ) (i : ℕ) : ℝ := vel x t i * (1 / 6) + 1 / 2 * (x t i - x 0 i)

/-- Level 1 after `T` steps. -/
def s1 (T : ℕ) (i : ℕ) : ℝ := x T i - x 0 i

/-- Level 2 after `T` steps. -/
def s2 (T : ℕ) (i j : ℕ) : ℝ := ∑ t ∈ range T, half x t i * vel x t j

/-- Level 3 after `T` steps: the third level's own term, and each level-2 term carried to the end of the path. -/
def s3 (T : ℕ) (i j k : ℕ) : ℝ :=
  (∑ t ∈ range T, sixth x t i * vel x t j * vel x t k) + ∑ t ∈ range T, half x t i * vel x t j * (x T k - x (t + 1) k)

theorem s1_zero (i : ℕ) : s1 x 0 i = 0 := by simp [s1]
theorem s2_zero (i j : ℕ) : s2 x 0 i j = 0 := by simp [s2]
theorem s3_zero (i j k : ℕ) : s3 x 0 i j k = 0 := by simp [s3]

theorem s1_succ (T : ℕ) (i : ℕ) : s1 x (T + 1) i = s1 x T i + vel x T i := by
  simp only [s1, vel]; ring

theorem s2_succ (T : ℕ) (i j : ℕ) :
    s2 x (T + 1) i j = s2 x T i j + vel x T i * vel x T j * (1 / 2) + s1 x T i * vel x T j := by
  simp only [s2, sum_range_succ, half, s1]; ring

theorem carried_succ (T : ℕ) (i j k : ℕ) :
    ∑ t ∈ range (T + 1), half x t i * vel x t j * (x (T + 1) k - x (t + 1) k)
      = (∑ t ∈ range T, half x t i * vel x t j * (x T k - x (t + 1) k)) + s2 x T i j * vel x T k := by
  rw [sum_range_succ, sub_self, mul_zero, add_zero, s2, sum_mul, ← sum_add_distrib]
  refine sum_congr rfl fun t _ => ?_
  simp only [vel]; ring

theorem s3_succ (T : ℕ) (i j k : ℕ) :
    s3 x (T + 1) i j k = s3 x T i j k + vel x T i * vel x T j * vel x T k * (1 / 6)
      + s1 x T i * (vel x T j * vel x T k * (1 / 2)) + s2 x T i j * vel x T k := by
  unfold s3
  rw [carried_succ, sum_range_succ, show sixth x T i = vel x T i * (1 / 6) + 1 / 2 * s1 x T i from rfl]
  generalize ∑ t ∈ range T, sixth x t i * vel x t j * vel x t k = a
  generalize ∑ t ∈ range T, half x t i * vel x t j * (x T k - x (t + 1) k) = b
  ring

/-- The flattened signature of a path of a hundred points: 8 entries of level 1, 64 of level 2, 512 of level 3. -/
def sig (q : ℕ) : ℝ :=
  if q < 8 then s1 x 99 q
  else if q < 72 then s2 x 99 ((q - 8) / 8) ((q - 8) % 8)
  else s3 x 99 ((q - 72) / 64) ((q - 72) / 8 % 8) ((q - 72) % 8)

/-- The path of window `n`: a window of points every fifty rows. -/
def path (d : ℕ → ℕ → ℝ) (n : ℕ) : ℕ → ℕ → ℝ := fun t i => d (50 * n + t) i

end Cert.Sig

end
-- ==== Proof.Consts.lean ====
/- The constants of the two programs, and sums and quotients of real numbers, over the extended reals. -/
module

public import Idealize.ShloMosaic.Lib.Pointwise

@[expose] public section

noncomputable section

namespace Cert.Consts

open Idealize.ShloMosaic

theorem half_eq : Ideal.ofBits .f32 0x3F000000#32 = ((1 / 2 : ℝ) : EReal) := by
  simp [Ideal.ofBits, Ideal.ieee, -EReal.coe_mul]; norm_num

theorem six_eq : Ideal.ofBits .f32 0x40C00000#32 = ((6 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem top_eq : Ideal.ofBits .f32 0x7F800000#32 = ⊤ := by
  simp [Ideal.ofBits, Ideal.ieee]

theorem bot_eq : Ideal.ofBits .f32 0xFF800000#32 = ⊥ := by
  simp [Ideal.ofBits, Ideal.ieee]

theorem div_six (x : ℝ) : Ideal.div (x : EReal) (Ideal.ofBits .f32 0x40C00000#32) = ((x * (1 / 6) : ℝ) : EReal) := by
  rw [six_eq, Ideal.div_coe (by norm_num), EReal.coe_mul]

theorem div_two (x : ℝ) : Ideal.div (x : EReal) (Ideal.ofBits .f32 0x40000000#32) = ((x * (1 / 2) : ℝ) : EReal) := by
  rw [two_eq, Ideal.div_coe (by norm_num), EReal.coe_mul]

theorem coe_sum {ι : Type} (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-- A sum over 128 lanes whose lanes past the 99th hold zero. -/
theorem sum_lanes (f : Fin 128 → EReal) (g : ℕ → ℝ) (h1 : ∀ l : Fin 128, l.1 < 99 → f l = (g l.1 : EReal))
    (h2 : ∀ l : Fin 128, 99 ≤ l.1 → f l = 0) : ∑ l, f l = ((∑ t ∈ Finset.range 99, g t : ℝ) : EReal) := by
  have e : ∀ l : Fin 128, f l = (fun t : ℕ => if t < 99 then (g t : EReal) else 0) l.1 := by
    intro l
    by_cases h : l.1 < 99
    · simp [h, h1 l h]
    · simp [h, h2 l (by omega)]
  rw [Finset.sum_congr rfl fun l _ => e l, Fin.sum_univ_eq_sum_range (fun t : ℕ => if t < 99 then (g t : EReal) else 0) 128,
    coe_sum, ← Finset.sum_filter]
  refine Finset.sum_congr ?_ fun _ _ => rfl
  ext t; simp; omega

end Cert.Consts

end
-- ==== Proof.Block.lean ====
/- One grid point of the kernel: what its block of windows computes, element by element, over the extended reals. -/
module

public import proofs.«01_k».proof.Proof.Gen.KernelIdeal.Skeleton
public import proofs.«01_k».proof.Proof.Sig
public import proofs.«01_k».proof.Proof.Consts
public import Idealize.ShloMosaic.Lib.Pointwise

@[expose] public section

set_option maxRecDepth 16384

noncomputable section

namespace Cert.KernelIdeal.Block

open Idealize.ShloMosaic Cert.KernelIdeal Cert.KernelIdeal.Gen

variable (v0 : FVec Ideal S256x8x50 .f32) (v2 : FVec Ideal S8x8x50 .f32)

theorem pay2_apply (r : Fin 256) (ch : Fin 8) (l : Fin 50) :
    k0_pay2 (F := Ideal) v0 v2 (ix3 r ch l) = if h : r.1 < 255 then v0 (ix3 ⟨r.1 + 1, by omega⟩ ch l) else v2 (ix3 0 ch l) := by
  pointwise [k0_pay2, k0_pay1]
  split
  · exact congrArg (fun a => v0 (ix3 a ch l)) (Fin.ext (by simp; omega))
  · exact congrArg (fun a => v2 (ix3 a ch l)) (Fin.ext (by simp; omega))

/-! ## The pieces of the product -/

/-- The window's points on 128 lanes, zero past its last but one. -/
def cur : FVec Ideal S256x8x128 .f32 :=
  concatenate S256x8x128 2 [⟨S256x8x50, k0_pay1 v0⟩,
    ⟨S256x8x49, extractStridedSlice S256x8x49 ![0, 0, 0] (k0_pay2 v0 v2) slices_S256x8x50_o0_0_0_S256x8x49⟩,
    ⟨S256x8x29, broadcast S256x8x29 (Scalar.ofBits .f32 0x00000000#32 : Ideal .f32)⟩] concatenates_S256x8x50_S256x8x49_S256x8x29_S256x8x128_d2

/-- The window's points from the second on, on 128 lanes, zero past its last. -/
def nxt : FVec Ideal S256x8x128 .f32 :=
  concatenate S256x8x128 2 [⟨S256x8x49, extractStridedSlice S256x8x49 ![0, 0, 1] (k0_pay1 v0) slices_S256x8x50_o0_0_1_S256x8x49⟩,
    ⟨S256x8x50, k0_pay2 v0 v2⟩,
    ⟨S256x8x29, broadcast S256x8x29 (Scalar.ofBits .f32 0x00000000#32 : Ideal .f32)⟩] concatenates_S256x8x49_S256x8x50_S256x8x29_S256x8x128_d2

/-- The increments. -/
def inc : FVec Ideal S256x8x128 .f32 := subf (nxt v0 v2) (cur v0 v2)

/-- What has passed of the path before each point. -/
def past : FVec Ideal S256x8x128 .f32 :=
  subf (cur v0 v2) (broadcastTo S256x8x128 (extractStridedSlice S256x8x1 ![0, 0, 0] (k0_pay1 v0) slices_S256x8x50_o0_0_0_S256x8x1) broadcasts_S256x8x1_S256x8x128)

/-- What remains of the path after each increment. -/
def rest : FVec Ideal S256x8x128 .f32 :=
  subf (broadcastTo S256x8x128 (extractStridedSlice S256x8x1 ![0, 0, 49] (k0_pay2 v0 v2) slices_S256x8x50_o0_0_49_S256x8x1) broadcasts_S256x8x1_S256x8x128) (nxt v0 v2)

def uCoef : FVec Ideal S256x8x128 .f32 :=
  addf (past v0 v2) (mulf (broadcast S256x8x128 (Scalar.ofBits .f32 0x3F000000#32 : Ideal .f32)) (inc v0 v2))

def cCoef : FVec Ideal S256x8x128 .f32 :=
  addf (divf (inc v0 v2) (broadcast S256x8x128 (Scalar.ofBits .f32 0x40C00000#32 : Ideal .f32)))
    (mulf (broadcast S256x8x128 (Scalar.ofBits .f32 0x3F000000#32 : Ideal .f32)) (past v0 v2))

/-- The outer product of a coefficient with the increments, its two channel axes merged. -/
def outer (a : FVec Ideal S256x8x128 .f32) : FVec Ideal S256x64x128 .f32 :=
  shapeCast S256x64x128 (mulf
    (broadcastTo S256x8x8x128 (shapeCast S256x8x1x128 a shapeCasts_S256x8x128_S256x8x1x128) broadcasts_S256x8x1x128_S256x8x8x128)
    (broadcastTo S256x8x8x128 (shapeCast S256x1x8x128 (inc v0 v2) shapeCasts_S256x8x128_S256x1x8x128) broadcasts_S256x1x8x128_S256x8x8x128))
    shapeCasts_S256x8x8x128_S256x64x128

def lhs : FVec Ideal S256x64x256 .f32 :=
  concatenate S256x64x256 2 [⟨S256x64x128, outer v0 v2 (cCoef v0 v2)⟩, ⟨S256x64x128, outer v0 v2 (uCoef v0 v2)⟩] concatenates_S256x64x128_S256x64x128_S256x64x256_d2

def rhs : FVec Ideal S256x16x256 .f32 :=
  concatenate S256x16x256 1 [⟨S256x8x256, concatenate S256x8x256 2 [⟨S256x8x128, inc v0 v2⟩, ⟨S256x8x128, rest v0 v2⟩] concatenates_S256x8x128_S256x8x128_S256x8x256_d2⟩,
    ⟨S256x8x256, concatenate S256x8x256 2 [⟨S256x8x128, broadcast S256x8x128 (Scalar.ofBits .f32 0x00000000#32 : Ideal .f32)⟩,
      ⟨S256x8x128, broadcast S256x8x128 (Scalar.ofBits .f32 0x3F800000#32 : Ideal .f32)⟩] concatenates_S256x8x128_S256x8x128_S256x8x256_d2⟩] concatenates_S256x8x256_S256x8x256_S256x16x256_d1

theorem pay3_eq : k0_pay3 (F := Ideal) v0 v2
    = matmul dot_S256x64x256_S256x16x256_S256x64x16_2_2_1_1_0_0 (some .fp32) (lhs v0 v2) (rhs v0 v2) (constant S256x64x16 .f32 0x00000000#32) := rfl

theorem outer_apply (a : FVec Ideal S256x8x128 .f32) (r : Fin 256) (b : Fin 64) (l : Fin 128) :
    outer v0 v2 a (ix3 r b l) = a (ix3 r ⟨b.1 / 8, by omega⟩ l) * inc v0 v2 (ix3 r ⟨b.1 % 8, by omega⟩ l) := by
  pointwise [outer]

theorem pay3_apply (r : Fin 256) (a : Fin 64) (q : Fin 16) :
    k0_pay3 (F := Ideal) v0 v2 (ix3 r a q)
      = ∑ l : Fin 128, outer v0 v2 (cCoef v0 v2) (ix3 r a l) * (if h : q.1 < 8 then inc v0 v2 (ix3 r ⟨q.1, h⟩ l) else 0)
        + ∑ l : Fin 128, outer v0 v2 (uCoef v0 v2) (ix3 r a l) * (if h : q.1 < 8 then rest v0 v2 (ix3 r ⟨q.1, h⟩ l) else 1) := by
  rw [pay3_eq]
  pointwise [lhs, rhs, sumSplitAt]

/-- The flattened signatures of the block's windows, of the block, the block moved by one chunk and the product. -/
def sigs (v1 v6 : FVec Ideal S256x8x50 .f32) (v45 : FVec Ideal S256x64x16 .f32) : FVec Ideal S256x584 .f32 :=
  concatenate S256x584 1 [
    ⟨S256x8, subf (shapeCast S256x8 (extractStridedSlice S256x8x1 ![0, 0, 49] v6 slices_S256x8x50_o0_0_49_S256x8x1) shapeCasts_S256x8x1_S256x8)
      (shapeCast S256x8 (extractStridedSlice S256x8x1 ![0, 0, 0] v1 slices_S256x8x50_o0_0_0_S256x8x1) shapeCasts_S256x8x1_S256x8)⟩,
    ⟨S256x64, shapeCast S256x64 (extractStridedSlice S256x64x1 ![0, 0, 8] v45 slices_S256x64x16_o0_0_8_S256x64x1) shapeCasts_S256x64x1_S256x64⟩,
    ⟨S256x512, shapeCast S256x512 (extractStridedSlice S256x64x8 ![0, 0, 0] v45 slices_S256x64x16_o0_0_0_S256x64x8) shapeCasts_S256x64x8_S256x512⟩]
    concatenates_S256x8_S256x64_S256x512_S256x584_d1

theorem pay4_eq (v1 v6 : FVec Ideal S256x8x50 .f32) (v45 : FVec Ideal S256x64x16 .f32) (v56 : FVec Ideal S64x584 .f32) (v58 : FVec Ideal S1x64 .f32) :
    k0_pay4 (F := Ideal) v1 v6 v45 v56 v58
      = addf (matmul dot_S256x584_S64x584_S256x64_1_1_0_0_n_n none (sigs v1 v6 v45) v56 (constant S256x64 .f32 0x00000000#32))
        (broadcastTo S256x64 (shapeCast S1x64 v58 shapeCasts_S1x64_S1x64) broadcasts_S1x64_S256x64) := rfl

theorem pay4_apply (v1 v6 : FVec Ideal S256x8x50 .f32) (v45 : FVec Ideal S256x64x16 .f32) (v56 : FVec Ideal S64x584 .f32) (v58 : FVec Ideal S1x64 .f32)
    (r : Fin 256) (e : Fin 64) :
    k0_pay4 (F := Ideal) v1 v6 v45 v56 v58 (ix2 r e) = ∑ q : Fin 584, sigs v1 v6 v45 (ix2 r q) * v56 (ix2 e q) + v58 (ix2 0 e) := by
  rw [pay4_eq]
  pointwise []

/-! ## On finite data -/

variable (x : Fin 256 → ℕ → ℕ → ℝ)
  (h0 : ∀ (r : Fin 256) (ch : Fin 8) (l : Fin 50), v0 (ix3 r ch l) = (x r l.1 ch.1 : EReal))
  (h2 : ∀ (r : Fin 256) (ch : Fin 8) (l : Fin 50), k0_pay2 (F := Ideal) v0 v2 (ix3 r ch l) = (x r (50 + l.1) ch.1 : EReal))

include h0 h2

theorem cur_apply (r : Fin 256) (ch : Fin 8) (l : Fin 128) :
    cur v0 v2 (ix3 r ch l) = if l.1 < 99 then (x r l.1 ch.1 : EReal) else 0 := by
  pointwise [cur, k0_pay1, h0, h2]
  split_ifs <;> first | rfl | omega | (rw [show 50 + (l.1 - 50) = l.1 from by omega])

theorem nxt_apply (r : Fin 256) (ch : Fin 8) (l : Fin 128) :
    nxt v0 v2 (ix3 r ch l) = if l.1 < 99 then (x r (l.1 + 1) ch.1 : EReal) else 0 := by
  pointwise [nxt, k0_pay1, h0, h2]
  split_ifs <;> first | rfl | omega | (rw [show 1 + l.1 = l.1 + 1 from by omega]) | (rw [show 50 + (l.1 - 49) = l.1 + 1 from by omega])

theorem inc_apply (r : Fin 256) (ch : Fin 8) (l : Fin 128) :
    inc v0 v2 (ix3 r ch l) = if l.1 < 99 then (Sig.vel (x r) l.1 ch.1 : EReal) else 0 := by
  pointwise [inc, cur_apply v0 v2 x h0 h2, nxt_apply v0 v2 x h0 h2]
  split_ifs
  · rw [Sig.vel, EReal.coe_sub]
  · simp

theorem past_apply (r : Fin 256) (ch : Fin 8) (l : Fin 128) (hl : l.1 < 99) :
    past v0 v2 (ix3 r ch l) = ((x r l.1 ch.1 - x r 0 ch.1 : ℝ) : EReal) := by
  pointwise [past, k0_pay1, h0, cur_apply v0 v2 x h0 h2]
  simp [hl]

theorem rest_apply (r : Fin 256) (ch : Fin 8) (l : Fin 128) (hl : l.1 < 99) :
    rest v0 v2 (ix3 r ch l) = ((x r 99 ch.1 - x r (l.1 + 1) ch.1 : ℝ) : EReal) := by
  pointwise [rest, h2, nxt_apply v0 v2 x h0 h2]
  simp [hl]

theorem uCoef_apply (r : Fin 256) (ch : Fin 8) (l : Fin 128) (hl : l.1 < 99) :
    uCoef v0 v2 (ix3 r ch l) = (Sig.half (x r) l.1 ch.1 : EReal) := by
  pointwise [uCoef, past_apply v0 v2 x h0 h2 r ch l hl, inc_apply v0 v2 x h0 h2]
  simp only [if_pos hl, Consts.half_eq, Sig.half, EReal.coe_add, EReal.coe_mul]

theorem cCoef_apply (r : Fin 256) (ch : Fin 8) (l : Fin 128) (hl : l.1 < 99) :
    cCoef v0 v2 (ix3 r ch l) = (Sig.sixth (x r) l.1 ch.1 : EReal) := by
  pointwise [cCoef, past_apply v0 v2 x h0 h2 r ch l hl, inc_apply v0 v2 x h0 h2]
  simp only [if_pos hl, Consts.half_eq, Consts.div_six, Sig.sixth, EReal.coe_add, EReal.coe_mul]

theorem pay3_level2 (r : Fin 256) (a : Fin 64) :
    k0_pay3 (F := Ideal) v0 v2 (ix3 r a 8) = (Sig.s2 (x r) 99 (a.1 / 8) (a.1 % 8) : EReal) := by
  rw [pay3_apply, Finset.sum_eq_zero fun l _ => by simp, zero_add]
  refine Consts.sum_lanes _ _ (fun l hl => ?_) (fun l hl => ?_)
  · rw [outer_apply, uCoef_apply v0 v2 x h0 h2 _ _ _ hl, inc_apply v0 v2 x h0 h2, if_pos hl, dif_neg (by decide), mul_one, EReal.coe_mul]
  · rw [outer_apply, inc_apply v0 v2 x h0 h2, if_neg (by omega), mul_zero, zero_mul]

theorem pay3_level3 (r : Fin 256) (a : Fin 64) (q : Fin 16) (hq : q.1 < 8) :
    k0_pay3 (F := Ideal) v0 v2 (ix3 r a q) = (Sig.s3 (x r) 99 (a.1 / 8) (a.1 % 8) q.1 : EReal) := by
  rw [pay3_apply, Sig.s3, EReal.coe_add]
  congr 1
  · refine Consts.sum_lanes _ _ (fun l hl => ?_) (fun l hl => ?_)
    · rw [outer_apply, cCoef_apply v0 v2 x h0 h2 _ _ _ hl, dif_pos hq, inc_apply v0 v2 x h0 h2, if_pos hl, inc_apply v0 v2 x h0 h2, if_pos hl,
        EReal.coe_mul, EReal.coe_mul]
    · rw [outer_apply, inc_apply v0 v2 x h0 h2, if_neg (by omega), mul_zero, zero_mul]
  · refine Consts.sum_lanes _ _ (fun l hl => ?_) (fun l hl => ?_)
    · rw [outer_apply, uCoef_apply v0 v2 x h0 h2 _ _ _ hl, dif_pos hq, inc_apply v0 v2 x h0 h2, if_pos hl, rest_apply v0 v2 x h0 h2 _ _ _ hl,
        EReal.coe_mul, EReal.coe_mul]
    · rw [outer_apply, inc_apply v0 v2 x h0 h2, if_neg (by omega), mul_zero, zero_mul]

/-- The kernel's flattened signatures are the windows' signatures. -/
theorem sigs_apply (r : Fin 256) (q : Fin 584) :
    sigs (k0_pay1 v0) (k0_pay2 v0 v2) (k0_pay3 v0 v2) (ix2 r q) = (Sig.sig (x r) q.1 : EReal) := by
  pointwise [sigs, k0_pay1, h0, h2, pay3_level2 v0 v2 x h0 h2]
  unfold Sig.sig
  by_cases h : q.1 < 8
  · rw [dif_pos h, if_pos h, Sig.s1, EReal.coe_sub]
  · rw [dif_neg h, if_neg h]
    by_cases h' : q.1 < 72
    · rw [dif_pos (by omega), if_pos h']
    · rw [dif_neg (by omega), if_neg h', pay3_level3 v0 v2 x h0 h2 _ _ _ (Nat.mod_lt _ (by decide))]
      have e : q.1 - 8 - 64 = q.1 - 72 := by omega
      simp only [e, Nat.div_div_eq_div_mul]

end Cert.KernelIdeal.Block

end
-- ==== Proof.ArgMin.lean ====
/- The least index at which a family attains its minimum, found in two ways: as the least of the indices at which the value is
   at most the minimum, and by a fold that keeps the greater value and, of equal ones, the lower index. -/
module

public import Idealize.ShloMosaic.Lib.Pointwise

@[expose] public section

noncomputable section

namespace Cert.ArgMin

open Idealize.ShloMosaic

variable (D : Fin 1024 → EReal)

/-- `k` is the least index at which `D` is least. -/
def IsLeast (k : Fin 1024) : Prop := (∀ j, D k ≤ D j) ∧ ∀ j, (∀ i, D j ≤ D i) → k ≤ j

theorem exists_isLeast : ∃ k, IsLeast D k := by
  classical
  obtain ⟨a, -, ha⟩ := Finset.exists_min_image Finset.univ D Finset.univ_nonempty
  have hne : (Finset.univ.filter fun j : Fin 1024 => ∀ i, D j ≤ D i).Nonempty :=
    ⟨a, Finset.mem_filter.2 ⟨Finset.mem_univ _, fun i => ha i (Finset.mem_univ _)⟩⟩
  obtain ⟨k, hk, hmin⟩ := Finset.exists_min_image _ id hne
  exact ⟨k, (Finset.mem_filter.1 hk).2, fun j hj => hmin j (Finset.mem_filter.2 ⟨Finset.mem_univ _, hj⟩)⟩

theorem fold_min_eq (k : Fin 1024) (hk : IsLeast D k) : Finset.fold min (⊤ : EReal) D Finset.univ = D k := by
  apply le_antisymm
  · exact (Finset.le_fold_min _).1 le_rfl |>.2 k (Finset.mem_univ _)
  · exact (Finset.le_fold_min _).2 ⟨le_top, fun j _ => hk.1 j⟩

/-- The signed minimum of words that are all small is the minimum of the numbers. -/
theorem minsi_fold (s : Finset (Fin 1024)) (f : Fin 1024 → ℕ) (b : ℕ) (hb : b < 2 ^ 31) (hf : ∀ j, f j < 2 ^ 31) :
    Finset.fold IntOp.minsi (BitVec.ofNat 32 b) (fun j => BitVec.ofNat 32 (f j)) s = BitVec.ofNat 32 (Finset.fold min b f s) := by
  classical
  induction s using Finset.induction_on with
  | empty => simp
  | insert a s ha ih =>
    rw [Finset.fold_insert ha, Finset.fold_insert ha, ih]
    have hlt : Finset.fold min b f s < 2 ^ 31 := lt_of_le_of_lt ((Finset.le_fold_min _).1 le_rfl).1 hb
    generalize Finset.fold min b f s = v at *
    have h1 : (BitVec.ofNat 32 (f a)).toInt = (f a : ℤ) := by
      rw [BitVec.toInt_eq_toNat_of_lt (by rw [BitVec.toNat_ofNat]; have := hf a; omega), BitVec.toNat_ofNat, Nat.mod_eq_of_lt (by have := hf a; omega)]
    have h2 : (BitVec.ofNat 32 v).toInt = (v : ℤ) := by
      rw [BitVec.toInt_eq_toNat_of_lt (by rw [BitVec.toNat_ofNat]; omega), BitVec.toNat_ofNat, Nat.mod_eq_of_lt (by omega)]
    unfold IntOp.minsi
    simp only [BitVec.slt, BitVec.sle, h1, h2]
    rcases le_total (f a) v with h | h
    · rw [min_eq_left h]; split_ifs <;> simp_all <;> congr 1 <;> omega
    · rw [min_eq_right h]; split_ifs <;> simp_all <;> congr 1 <;> omega

/-- The first way. -/
theorem first (k : Fin 1024) (hk : IsLeast D k) :
    Finset.fold IntOp.minsi 2147483647#32
      (fun j : Fin 1024 => if D j ≤ Finset.fold min (⊤ : EReal) D Finset.univ then BitVec.ofNat 32 j.1 else 1024#32) Finset.univ
      = BitVec.ofNat 32 k.1 := by
  classical
  rw [fold_min_eq D k hk]
  have e : (fun j : Fin 1024 => if D j ≤ D k then BitVec.ofNat 32 j.1 else 1024#32)
      = fun j : Fin 1024 => BitVec.ofNat 32 (if D j ≤ D k then j.1 else 1024) := by
    funext j; split_ifs <;> rfl
  rw [e]
  refine (minsi_fold Finset.univ _ 2147483647 (by norm_num) (fun j => by split_ifs <;> omega)).trans ?_
  congr 1
  apply le_antisymm
  · refine ((Finset.le_fold_min _).1 le_rfl).2 k (Finset.mem_univ _) |>.trans ?_
    simp
  · refine (Finset.le_fold_min _).2 ⟨by omega, fun j _ => ?_⟩
    split_ifs with h
    · exact hk.2 j fun i => h.trans (hk.1 i)
    · omega

/-- A fold over pairs that keeps the greater value and, of equal ones, the lower index. -/
theorem second (f : EReal × BitVec 32 → EReal × BitVec 32 → EReal × BitVec 32)
    (hf : ∀ a b, f a b = if b.1 < a.1 ∨ (a.1 = b.1 ∧ a.2.toInt < b.2.toInt) then a else if a.1 = b.1 then (b.1, b.2) else b)
    (l : List (EReal × BitVec 32)) (a : EReal × BitVec 32) :
    (l.foldl f a ∈ a :: l) ∧ (∀ p ∈ a :: l, p.1 ≤ (l.foldl f a).1)
      ∧ ∀ p ∈ a :: l, p.1 = (l.foldl f a).1 → (l.foldl f a).2.toInt ≤ p.2.toInt := by
  induction l generalizing a with
  | nil => simp
  | cons b l ih =>
    obtain ⟨h1, h2, h3⟩ := ih (f a b)
    rw [List.foldl_cons]
    generalize List.foldl f (f a b) l = r at *
    have hfab : (f a b = a ∧ (b.1 < a.1 ∨ (a.1 = b.1 ∧ a.2.toInt < b.2.toInt))) ∨
        (f a b = b ∧ (a.1 < b.1 ∨ (a.1 = b.1 ∧ b.2.toInt ≤ a.2.toInt))) := by
      rw [hf]
      by_cases h : b.1 < a.1 ∨ (a.1 = b.1 ∧ a.2.toInt < b.2.toInt)
      · left; rw [if_pos h]; exact ⟨rfl, h⟩
      · right
        rw [if_neg h]
        push Not at h
        refine ⟨by split_ifs <;> rfl, ?_⟩
        rcases lt_or_eq_of_le h.1 with h' | h'
        · exact Or.inl h'
        · exact Or.inr ⟨h', h.2 h'⟩
    have h2' := h2 (f a b) List.mem_cons_self
    have h3' := h3 (f a b) List.mem_cons_self
    refine ⟨?_, ?_, ?_⟩
    · rcases List.mem_cons.1 h1 with h | h
      · rcases hfab with ⟨e, -⟩ | ⟨e, -⟩ <;> rw [h, e] <;> simp
      · simp [h]
    · intro p hp
      rcases List.mem_cons.1 hp with rfl | hp
      · rcases hfab with ⟨e, h⟩ | ⟨e, h⟩ <;> rw [e] at h2'
        · exact h2'
        · exact (h.elim le_of_lt fun h => h.1.le).trans h2'
      · rcases List.mem_cons.1 hp with rfl | hp
        · rcases hfab with ⟨e, h⟩ | ⟨e, h⟩ <;> rw [e] at h2'
          · exact (h.elim le_of_lt fun h => h.1.ge).trans h2'
          · exact h2'
        · exact h2 p (List.mem_cons_of_mem _ hp)
    · intro p hp hpr
      rcases List.mem_cons.1 hp with rfl | hp
      · rcases hfab with ⟨e, h⟩ | ⟨e, h⟩ <;> rw [e] at h2' h3'
        · exact h3' hpr
        · rcases h with h | ⟨h, h'⟩
          · exact absurd (hpr ▸ h2') (not_le.2 h)
          · exact (h3' (h ▸ hpr)).trans h'
      · rcases List.mem_cons.1 hp with rfl | hp
        · rcases hfab with ⟨e, h⟩ | ⟨e, h⟩ <;> rw [e] at h2' h3'
          · rcases h with h | ⟨h, h'⟩
            · exact absurd (hpr ▸ h2') (not_le.2 h)
            · exact (h3' (h.trans hpr)).trans h'.le
          · exact h3' hpr
        · exact h3 p (List.mem_cons_of_mem _ hp) hpr

end Cert.ArgMin

end
-- ==== Proof.Spec.lean ====
/- What both programs compute, over the extended reals: the code of a window, and its token. -/
module

public import proofs.«01_k».proof.Proof.Sig
public import proofs.«01_k».proof.Proof.ArgMin

@[expose] public section

noncomputable section

namespace Cert.Spec

open Idealize.ShloMosaic

/-- The code of window `n`: its signature through the linear layer. -/
def code (d : ℕ → ℕ → ℝ) (W : Fin 64 → Fin 584 → EReal) (b : Fin 64 → EReal) (n : ℕ) (e : Fin 64) : EReal :=
  ∑ q : Fin 584, (Sig.sig (Sig.path d n) q.1 : EReal) * W e q + b e

/-- The squared distance of a code to row `k` of the codebook, expanded. -/
def dist (z : Fin 64 → EReal) (B : Fin 1024 → Fin 64 → EReal) (k : Fin 1024) : EReal :=
  (∑ e : Fin 64, z e * z e + ∑ e : Fin 64, B k e * B k e) - Ideal.ofBits .f32 0x40000000#32 * ∑ e : Fin 64, z e * B k e

/-- The least row of the codebook at the least distance. -/
def nearest (z : Fin 64 → EReal) (B : Fin 1024 → Fin 64 → EReal) : Fin 1024 := (ArgMin.exists_isLeast (dist z B)).choose

theorem nearest_isLeast (z : Fin 64 → EReal) (B : Fin 1024 → Fin 64 → EReal) : ArgMin.IsLeast (dist z B) (nearest z B) :=
  (ArgMin.exists_isLeast (dist z B)).choose_spec

/-- The token of window `n`. -/
def token (d : ℕ → ℕ → ℝ) (W : Fin 64 → Fin 584 → EReal) (b : Fin 64 → EReal) (B : Fin 1024 → Fin 64 → EReal) (n : ℕ) : BitVec 32 :=
  BitVec.ofNat 32 (nearest (code d W b n) B).1

end Cert.Spec

end
-- ==== Proof.Token.lean ====
/- One grid point of the kernel: the distances of its windows' codes to the codebook, and the tokens. -/
module

public import proofs.«01_k».proof.Proof.Gen.KernelIdeal.Skeleton
public import proofs.«01_k».proof.Proof.Consts
public import proofs.«01_k».proof.Proof.Spec
public import Idealize.ShloMosaic.Lib.Pointwise

@[expose] public section

set_option maxRecDepth 16384

noncomputable section

namespace Cert.KernelIdeal.Token

open Idealize.ShloMosaic Cert.KernelIdeal Cert.KernelIdeal.Gen

variable (v1 v6 : FVec Ideal S256x8x50 .f32) (v45 : FVec Ideal S256x64x16 .f32) (v56 : FVec Ideal S64x584 .f32)
  (v58 : FVec Ideal S1x64 .f32) (v62 : FVec Ideal S1024x64 .f32)

theorem pay5_apply (r : Fin 256) (k : Fin 1024)
    (hk : ArgMin.IsLeast (Spec.dist (fun e => k0_pay4 (F := Ideal) v1 v6 v45 v56 v58 (ix2 r e)) (fun k e => v62 (ix2 k e))) k) :
    k0_pay5 (F := Ideal) v1 v6 v45 v56 v58 v62 (ix3 0 0 r) = BitVec.ofNat 32 k.1 := by
  have h : k0_pay5 (F := Ideal) v1 v6 v45 v56 v58 v62 (ix3 0 0 r) = Finset.fold IntOp.minsi 2147483647#32
      (fun j : Fin 1024 => if Spec.dist (fun e => k0_pay4 (F := Ideal) v1 v6 v45 v56 v58 (ix2 r e)) (fun k e => v62 (ix2 k e)) j
        ≤ Finset.fold min (⊤ : EReal) (Spec.dist (fun e => k0_pay4 (F := Ideal) v1 v6 v45 v56 v58 (ix2 r e)) (fun k e => v62 (ix2 k e))) Finset.univ
        then BitVec.ofNat 32 j.1 else 1024#32) Finset.univ := by
    rw [← Consts.top_eq]
    unfold Spec.dist
    pointwise [k0_pay5]
  rw [h]
  exact ArgMin.first _ k hk

end Cert.KernelIdeal.Token

end
-- ==== Proof.KernelRun.lean ====
/- The kernel's run: its two results, in terms of the arguments, where the data are real numbers. -/
module

public import proofs.«01_k».proof.Proof.KernelBlocks
public import proofs.«01_k».proof.Proof.Block
public import proofs.«01_k».proof.Proof.Token

@[expose] public section

set_option maxRecDepth 16384

noncomputable section

namespace Cert.KernelIdeal.Value

open Idealize.ShloMosaic Idealize.ShloMosaic.TcCoe Cert.KernelIdeal Cert.KernelIdeal.Gen Idealize.SL.Sem

variable (m : (ℓ : Loc nD τ sig) → Buf (Elt Ideal) ℓ) (ρ : Dev nD → PrngReg) (c : Dev nD)

/-- The other arguments, by coordinates. -/
def weight (e : Fin 64) (q : Fin 584) : EReal := m ((c.tc : Thread nD τ).loc main_arg1) (ix2 e q)
def bias (e : Fin 64) : EReal := m ((c.tc : Thread nD τ).loc main_arg2) (ix1 e)
def book (k : Fin 1024) (e : Fin 64) : EReal := m ((c.tc : Thread nD τ).loc main_arg3) (ix2 k e)

/-- The table holds the real numbers `d`, which are zero past its end. -/
structure Holds (d : ℕ → ℕ → ℝ) : Prop where
  inside : ∀ r i, data m c (ix2 r i) = (d r.1 i.1 : EReal)
  outside : ∀ r i, 100000 ≤ r → d r i = 0

variable {m c} {d : ℕ → ℕ → ℝ} (hd : Holds m c d)
include hd

theorem chunks_real (r : Fin 2056) (ch : Fin 8) (l : Fin 50) : chunks m c (ix3 r ch l) = (d (50 * r.1 + l.1) ch.1 : EReal) := by
  rw [chunks_apply]
  split
  · rw [hd.inside]
  · rw [hd.outside _ _ (by omega), EReal.coe_zero]

/-- The codes of a grid point's windows. -/
theorem block_code (t : Fin cfg0.N) (r : Fin 256) (e : Fin 64) :
    k0_pay4 (F := Ideal) (k0_pay1 (X0_0 m c t)) (k0_pay2 (X0_0 m c t) (iblk m c 1 t)) (k0_pay3 (X0_0 m c t) (iblk m c 1 t))
      (iblk m c 2 t) (iblk m c 3 t) (ix2 r e) = Spec.code d (weight m c) (bias m c) (256 * t.1 + r.1) e := by
  rw [Block.pay4_apply]
  have h0 : ∀ (r : Fin 256) (ch : Fin 8) (l : Fin 50), X0_0 m c t (ix3 r ch l) = (Sig.path d (256 * t.1 + r.1) l.1 ch.1 : EReal) := by
    intro r ch l
    rw [X0_apply, chunks_real hd]
    rfl
  have h2 : ∀ (r : Fin 256) (ch : Fin 8) (l : Fin 50), k0_pay2 (F := Ideal) (X0_0 m c t) (iblk m c 1 t) (ix3 r ch l)
      = (Sig.path d (256 * t.1 + r.1) (50 + l.1) ch.1 : EReal) := by
    intro r ch l
    rw [Block.pay2_apply]
    split
    · rw [h0]
      unfold Sig.path
      congr 2
      change 50 * (256 * t.1 + (r.1 + 1)) + l.1 = _
      omega
    · rw [next_apply, chunks_real hd]
      unfold Sig.path
      congr 2
      change 50 * (256 * t.1 + 256 + 0) + l.1 = _
      omega
  unfold Spec.code
  rw [bias_apply]
  congr 1
  refine Finset.sum_congr rfl fun q _ => ?_
  rw [Block.sigs_apply _ _ (fun r => Sig.path d (256 * t.1 + r.1)) h0 h2, weight_apply]
  rfl

/-- The tokens of a grid point's windows. -/
theorem block_token (t : Fin cfg0.N) (r : Fin 256) :
    k0_pay5 (F := Ideal) (k0_pay1 (X0_0 m c t)) (k0_pay2 (X0_0 m c t) (iblk m c 1 t)) (k0_pay3 (X0_0 m c t) (iblk m c 1 t))
      (iblk m c 2 t) (iblk m c 3 t) (iblk m c 4 t) (ix3 0 0 r)
      = Spec.token d (weight m c) (bias m c) (book m c) (256 * t.1 + r.1) := by
  refine Token.pay5_apply _ _ _ _ _ _ r _ ?_
  have e1 : (fun e => k0_pay4 (F := Ideal) (k0_pay1 (X0_0 m c t)) (k0_pay2 (X0_0 m c t) (iblk m c 1 t))
      (k0_pay3 (X0_0 m c t) (iblk m c 1 t)) (iblk m c 2 t) (iblk m c 3 t) (ix2 r e))
      = Spec.code d (weight m c) (bias m c) (256 * t.1 + r.1) := funext fun e => block_code hd t r e
  have e2 : (fun k e => iblk m c 4 t (ix2 k e)) = book m c := funext fun k => funext fun e => book_apply m c t k e
  rw [e1]
  exact e2 ▸ Spec.nearest_isLeast _ _

omit hd

theorem arr6_of (G : S2048x64.Idx → EReal)
    (hG : ∀ (t : Fin cfg0.N) (r : Fin 256) (e : Fin 64), k0_pay4 (F := Ideal) (k0_pay1 (X0_0 m c t)) (k0_pay2 (X0_0 m c t) (iblk m c 1 t))
      (k0_pay3 (X0_0 m c t) (iblk m c 1 t)) (iblk m c 2 t) (iblk m c 3 t) (ix2 r e)
      = G (ix2 ⟨256 * t.1 + r.1, by have := point_lt t; omega⟩ e)) : (dats m 0 c).arrAt 6 cfg0.N = G := by
  refine (dats m 0 c).arrAt_eq_of_covers 6 _ (by decide +kernel) fun t hf y => ?_
  blk_simp
  rw [after0_6]
  unfold outsAt0
  frame_out
  obtain ⟨h0, h1, h2, h3, h4, h5, h6⟩ := idx t
  obtain ⟨r, e, rfl⟩ : ∃ (r : Fin 256) (e : Fin 64), y = (ix2 r e : S256x64.Idx) := ⟨y 0, y 1, by funext a; match a with | ⟨0, _⟩ => rfl | ⟨1, _⟩ => rfl⟩
  have hemb : ((View.whole main_v5_1).slice (win0_6.rect t)).emb (ix2 r e : S256x64.Idx)
      = (ix2 ⟨256 * t.1 + r.1, by have := point_lt t; omega⟩ e : S2048x64.Idx) := by
    blk_ext [h6]
  rw [hemb]
  exact hG t r e

theorem arr5_of (G : S8x1x256.Idx → BitVec 32)
    (hG : ∀ (t : Fin cfg0.N) (r : Fin 256), k0_pay5 (F := Ideal) (k0_pay1 (X0_0 m c t)) (k0_pay2 (X0_0 m c t) (iblk m c 1 t))
      (k0_pay3 (X0_0 m c t) (iblk m c 1 t)) (iblk m c 2 t) (iblk m c 3 t) (iblk m c 4 t) (ix3 0 0 r)
      = G (ix3 ⟨t.1, point_lt t⟩ 0 r)) : (dats m 0 c).arrAt 5 cfg0.N = G := by
  refine (dats m 0 c).arrAt_eq_of_covers 5 _ (by decide +kernel) fun t hf y => ?_
  blk_simp
  rw [after0_5]
  unfold outsAt0
  frame_out
  obtain ⟨h0, h1, h2, h3, h4, h5, h6⟩ := idx t
  obtain ⟨r, rfl⟩ : ∃ (r : Fin 256), y = (ix3 0 0 r : S1x1x256.Idx) := ⟨y 2, by
    funext a
    match a with
    | ⟨0, _⟩ => exact Subsingleton.elim (α := Fin 1) _ _
    | ⟨1, _⟩ => exact Subsingleton.elim (α := Fin 1) _ _
    | ⟨2, _⟩ => rfl⟩
  have hemb : ((View.whole main_v5_0).slice (win0_5.rect t)).emb (ix3 0 0 r : S1x1x256.Idx)
      = (ix3 ⟨t.1, point_lt t⟩ 0 r : S8x1x256.Idx) := by
    blk_ext [h5]
  rw [hemb]
  exact hG t r

include hd

theorem arr6 : (dats m 0 c).arrAt 6 cfg0.N = fun i : S2048x64.Idx => Spec.code d (weight m c) (bias m c) (i 0).1 (i 1) :=
  arr6_of _ fun t r e => block_code hd t r e

theorem arr5 : (dats m 0 c).arrAt 5 cfg0.N
    = fun i : S8x1x256.Idx => Spec.token d (weight m c) (bias m c) (book m c) (256 * (i 0).1 + (i 2).1) :=
  arr5_of _ fun t r => block_token hd t r

omit hd

/-- After the lines behind the region, the two results, read off the pipeline's output arrays. -/
theorem tail_token : Pipeline.afterTail₀ cfgs (dats m) 0 (V0 m) [hostOps1] c main_v7
    = extractStridedSlice S1999 ![0] (shapeCast S2048 ((dats m 0 c).arrAt 5 cfg0.N : IVec S8x1x256 32) shapeCasts_S8x1x256_S2048) slices_S2048_S1999_0 := by
  have h := (dats m 0 c).withArrays_arrAt (by decide) (V0 m c) (A_eq m c) 5
  unfold Pipeline.afterTail₀
  simp only [List.flatten_cons, List.flatten_nil, List.append_nil]
  after_results_simp
  exact congrArg (fun X : IVec S8x1x256 32 => extractStridedSlice S1999 ![0] (shapeCast S2048 X shapeCasts_S8x1x256_S2048) slices_S2048_S1999_0) h

theorem tail_code : Pipeline.afterTail₀ cfgs (dats m) 0 (V0 m) [hostOps1] c main_v8
    = extractStridedSlice S1999x64 ![0, 0] ((dats m 0 c).arrAt 6 cfg0.N : FVec Ideal S2048x64 .f32) slices_S2048x64_S1999x64_0_0 := by
  have h := (dats m 0 c).withArrays_arrAt (by decide) (V0 m c) (A_eq m c) 6
  unfold Pipeline.afterTail₀
  simp only [List.flatten_cons, List.flatten_nil, List.append_nil]
  after_results_simp
  exact congrArg (fun X : FVec Ideal S2048x64 .f32 => extractStridedSlice S1999x64 ![0, 0] X slices_S2048x64_S1999x64_0_0) h

include hd

theorem result_token : Pipeline.afterTail₀ cfgs (dats m) 0 (V0 m) [hostOps1] c main_v7
    = fun j : S1999.Idx => Spec.token d (weight m c) (bias m c) (book m c) (j 0).1 := by
  rw [tail_token, arr5 hd]
  have h : ∀ f : ℕ → BitVec 32, extractStridedSlice S1999 ![0] (shapeCast S2048 (fun i : S8x1x256.Idx => f (256 * (i 0).1 + (i 2).1)) shapeCasts_S8x1x256_S2048) slices_S2048_S1999_0
      = fun j : S1999.Idx => f (j 0).1 := by
    intro f
    funext j
    obtain ⟨n, rfl⟩ : ∃ n : Fin 1999, j = ix1 n := ⟨j 0, by funext a; match a with | ⟨0, _⟩ => rfl⟩
    pointwise []
    rw [Nat.div_add_mod]
  exact h _

theorem result_code : Pipeline.afterTail₀ cfgs (dats m) 0 (V0 m) [hostOps1] c main_v8
    = fun j : S1999x64.Idx => Spec.code d (weight m c) (bias m c) (j 0).1 (j 1) := by
  rw [tail_code, arr6 hd]
  have h : ∀ f : ℕ → Fin 64 → EReal, extractStridedSlice S1999x64 ![0, 0] (fun i : S2048x64.Idx => f (i 0).1 (i 1)) slices_S2048x64_S1999x64_0_0
      = fun j : S1999x64.Idx => f (j 0).1 (j 1) := by
    intro f
    funext j
    obtain ⟨n, e, rfl⟩ : ∃ (n : Fin 1999) (e : Fin 64), j = ix2 n e := ⟨j 0, j 1, by funext a; match a with | ⟨0, _⟩ => rfl | ⟨1, _⟩ => rfl⟩
    pointwise []
  exact h _

omit hd

/-- The kernel's run: both results, and the arguments unchanged. -/
theorem run (d : Dev nD → ℕ → ℕ → ℝ) (hd : ∀ c, Holds m c (d c)) :
    θ_run defs (onTc (τ := τ) (main (F := Ideal))) ⟨m, fun _ => 0, ρ⟩ fun r => ∀ c : Dev nD,
      r.2.mem ((c.tc : Thread nD τ).loc main_v7) = (fun j : S1999.Idx => Spec.token (d c) (weight m c) (bias m c) (book m c) (j 0).1)
      ∧ r.2.mem ((c.tc : Thread nD τ).loc main_v8) = (fun j : S1999x64.Idx => Spec.code (d c) (weight m c) (bias m c) (j 0).1 (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from (Gen.run_main m ρ)
  · exact result_token (hd c)
  · exact result_code (hd c)
  · exact W_main_arg0 m (dats m) c
  · exact W_main_arg2 m (dats m) c

end Cert.KernelIdeal.Value

end
-- ==== Proof.RefRun.lean ====
/- The reference program's run. @main is three stretches of host operations, one counted host loop of 99 trips (the
   scan over the increments of a window) and two stretches after it. `run_fold`, by Lib/StableHlo/RunLoop.lean's
   `run_loop`: every weakly fair execution terminates with every unscoped TensorCore buffer at the fold
   `finalContents`. Then one trip's values from any contents (`trip_‹carried›`), the step (`STEP`), and `run`: each
   result is a term over `STEP` iterated on the loop's entry.

   This module's text is generated, not written by hand. The library's generator of reference runs refuses this program
   for its argmax, an operation of four operands whose function takes a fifth parameter, the index; a copy of the
   generator that accepts that one operation wrote what follows, and only this opening comment was rewritten and one
   cross-reference dropped. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 19 host operations of @main, in order. -/
abbrev hostOps0 : List (HloOp τ sig (Elt F)) :=
  [ StableHlo.nullary main_v0 (iotaInDim S1999 32 0),
    StableHlo.nullary main_c (constantI S_ 32 50#32),
    StableHlo.unary main_c main_v1 (broadcastInDim S1999 ![] bcast_S_S1999 : (⟨S_, .i32⟩ : BufTy).Contents (Elt F) → (⟨S1999, .i32⟩ : BufTy).Contents (Elt F)),
    StableHlo.binary main_v0 main_v1 main_v2 (muli : (⟨S1999, .i32⟩ : BufTy).Contents (Elt F) → (⟨S1999, .i32⟩ : BufTy).Contents (Elt F) → (⟨S1999, .i32⟩ : BufTy).Contents (Elt F)),
    StableHlo.unary main_v2 main_v3 (broadcastInDim S1999x1 ![0] bcast_S1999_S1999x1_0 : (⟨S1999, .i32⟩ : BufTy).Contents (Elt F) → (⟨S1999x1, .i32⟩ : BufTy).Contents (Elt F)),
    StableHlo.nullary main_v4 (iotaInDim S100 32 0),
    StableHlo.unary main_v4 main_v5 (broadcastInDim S1x100 ![1] bcast_S100_S1x100_1 : (⟨S100, .i32⟩ : BufTy).Contents (Elt F) → (⟨S1x100, .i32⟩ : BufTy).Contents (Elt F)),
    StableHlo.unary main_v3 main_v6 (broadcastInDim S1999x100 ![0, 1] bcast_S1999x1_S1999x100_0_1 : (⟨S1999x1, .i32⟩ : BufTy).Contents (Elt F) → (⟨S1999x100, .i32⟩ : BufTy).Contents (Elt F)),
    StableHlo.unary main_v5 main_v7 (broadcastInDim S1999x100 ![0, 1] bcast_S1x100_S1999x100_0_1 : (⟨S1x100, .i32⟩ : BufTy).Contents (Elt F) → (⟨S1999x100, .i32⟩ : BufTy).Contents (Elt F)),
    StableHlo.binary main_v6 main_v7 main_v8 (addi : (⟨S1999x100, .i32⟩ : BufTy).Contents (Elt F) → (⟨S1999x100, .i32⟩ : BufTy).Contents (Elt F) → (⟨S1999x100, .i32⟩ : BufTy).Contents (Elt F)),
    StableHlo.nullary main_c_0 (constantI S_ 32 0#32),
    StableHlo.unary main_c_0 main_v9 (broadcastInDim S1999x100 ![] bcast_S_S1999x100 : (⟨S_, .i32⟩ : BufTy).Contents (Elt F) → (⟨S1999x100, .i32⟩ : BufTy).Contents (Elt F)),
    StableHlo.binary main_v8 main_v9 main_v10 (cmpi .slt : (⟨S1999x100, .i32⟩ : BufTy).Contents (Elt F) → (⟨S1999x100, .i32⟩ : BufTy).Contents (Elt F) → (⟨S1999x100, .i1⟩ : BufTy).Contents (Elt F)),
    StableHlo.nullary main_c_1 (constantI S_ 32 100000#32),
    StableHlo.unary main_c_1 main_v11 (broadcastInDim S1999x100 ![] bcast_S_S1999x100 : (⟨S_, .i32⟩ : BufTy).Contents (Elt F) → (⟨S1999x100, .i32⟩ : BufTy).Contents (Elt F)),
    StableHlo.binary main_v8 main_v11 main_v12 (addi : (⟨S1999x100, .i32⟩ : BufTy).Contents (Elt F) → (⟨S1999x100, .i32⟩ : BufTy).Contents (Elt F) → (⟨S1999x100, .i32⟩ : BufTy).Contents (Elt F)),
    StableHlo.ternary main_v10 main_v12 main_v8 main_v13 (select : (⟨S1999x100, .i1⟩ : BufTy).Contents (Elt F) → (⟨S1999x100, .i32⟩ : BufTy).Contents (Elt F) → (⟨S1999x100, .i32⟩ : BufTy).Contents (Elt F) → (⟨S1999x100, .i32⟩ : BufTy).Contents (Elt F)),
    StableHlo.unary main_v13 main_v14 (broadcastInDim S1999x100x1 ![0, 1] bcast_S1999x100_S1999x100x1_0_1 : (⟨S1999x100, .i32⟩ : BufTy).Contents (Elt F) → (⟨S1999x100x1, .i32⟩ : BufTy).Contents (Elt F)),
    StableHlo.binary main_arg0 main_v14 main_v15 ((fun x i => Host.gather gather_S100000x8_S1999x100x1_S1999x100x8_2_0_n_n_0_2_18 x i) : (⟨S100000x8, .f32⟩ : BufTy).Contents (Elt F) → (⟨S1999x100x1, .i32⟩ : BufTy).Contents (Elt F) → (⟨S1999x100x8, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- 3 host operations of @diff (main_call0), in order. -/
abbrev hostOps0_1 : List (HloOp τ sig (Elt F)) :=
  [ StableHlo.TRef.unary (.of main_v15 : StableHlo.TRef sig ⟨S1999x100x8, .f32⟩) (.of main_call0_v0 : StableHlo.TRef sig ⟨S1999x99x8, .f32⟩) (extractStridedSlice S1999x99x8 ![0, 1, 0] · slices_S1999x100x8_S1999x99x8_0_1_0),
    StableHlo.TRef.unary (.of main_v15 : StableHlo.TRef sig ⟨S1999x100x8, .f32⟩) (.of main_call0_v1 : StableHlo.TRef sig ⟨S1999x99x8, .f32⟩) (extractStridedSlice S1999x99x8 ![0, 0, 0] · slices_S1999x100x8_S1999x99x8_0_0_0),
    StableHlo.TRef.binary (.of main_call0_v0 : StableHlo.TRef sig ⟨S1999x99x8, .f32⟩) (.of main_call0_v1 : StableHlo.TRef sig ⟨S1999x99x8, .f32⟩) (.of main_v16 : StableHlo.TRef sig ⟨S1999x99x8, .f32⟩) subf ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub ..⟩
/-- 16 host operations of @main, in order. -/
abbrev hostOps0_2 : List (HloOp τ sig (Elt F)) :=
  [ StableHlo.nullary main_cst (constant S_ .f32 0x00000000#32),
    StableHlo.unary main_cst main_v17 (broadcastInDim S8 ![] bcast_S_S8 : (⟨S_, .f32⟩ : BufTy).Contents (Elt F) → (⟨S8, .f32⟩ : BufTy).Contents (Elt F)),
    StableHlo.nullary main_cst_2 (constant S_ .f32 0x00000000#32),
    StableHlo.unary main_cst_2 main_v18 (broadcastInDim S8x8 ![] bcast_S_S8x8 : (⟨S_, .f32⟩ : BufTy).Contents (Elt F) → (⟨S8x8, .f32⟩ : BufTy).Contents (Elt F)),
    StableHlo.nullary main_cst_3 (constant S_ .f32 0x00000000#32),
    StableHlo.unary main_cst_3 main_v19 (broadcastInDim S8x8x8 ![] bcast_S_S8x8x8 : (⟨S_, .f32⟩ : BufTy).Contents (Elt F) → (⟨S8x8x8, .f32⟩ : BufTy).Contents (Elt F)),
    StableHlo.unary main_v17 main_v20 (broadcastInDim S1999x8 ![1] bcast_S8_S1999x8_1 : (⟨S8, .f32⟩ : BufTy).Contents (Elt F) → (⟨S1999x8, .f32⟩ : BufTy).Contents (Elt F)),
    StableHlo.unary main_v18 main_v21 (broadcastInDim S1999x8x8 ![1, 2] bcast_S8x8_S1999x8x8_1_2 : (⟨S8x8, .f32⟩ : BufTy).Contents (Elt F) → (⟨S1999x8x8, .f32⟩ : BufTy).Contents (Elt F)),
    StableHlo.unary main_v19 main_v22 (broadcastInDim S1999x8x8x8 ![1, 2, 3] bcast_S8x8x8_S1999x8x8x8_1_2_3 : (⟨S8x8x8, .f32⟩ : BufTy).Contents (Elt F) → (⟨S1999x8x8x8, .f32⟩ : BufTy).Contents (Elt F)),
    StableHlo.unary main_v16 main_v23 ((transpose S99x1999x8 [1, 0, 2] · transposes_S1999x99x8_S99x1999x8_1_0_2) : (⟨S1999x99x8, .f32⟩ : BufTy).Contents (Elt F) → (⟨S99x1999x8, .f32⟩ : BufTy).Contents (Elt F)),
    StableHlo.nullary main_c_4 (constantI S_ 32 0#32),
    StableHlo.unary main_v23 main_v24_0 id,
    StableHlo.unary main_c_4 main_v24_1 id,
    StableHlo.unary main_v20 main_v24_2 id,
    StableHlo.unary main_v21 main_v24_3 id,
    StableHlo.unary main_v22 main_v24_4 id ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 26 host operations of @main, in order. -/
abbrev hostOps0_3 : List (HloOp τ sig (Elt F)) :=
  [ StableHlo.reshape main_v24_3 main_v25 (rfl : (.f32 : EltTy) = .f32) shapeCasts_S1999x8x8_S1999x64,
    StableHlo.reshape main_v24_4 main_v26 (rfl : (.f32 : EltTy) = .f32) shapeCasts_S1999x8x8x8_S1999x512,
    StableHlo.nary ![main_v24_2, main_v25, main_v26] main_v27 (fun u => (concatenate S1999x584 1 [⟨S1999x8, (u 0 : (⟨S1999x8, .f32⟩ : BufTy).Contents (Elt F))⟩, ⟨S1999x64, (u 1 : (⟨S1999x64, .f32⟩ : BufTy).Contents (Elt F))⟩, ⟨S1999x512, (u 2 : (⟨S1999x512, .f32⟩ : BufTy).Contents (Elt F))⟩] concatenates_S1999x8_S1999x64_S1999x512_S1999x584_d1 : (⟨S1999x584, .f32⟩ : BufTy).Contents (Elt F))),
    StableHlo.unary main_arg1 main_v28 ((transpose S584x64 [1, 0] · transposes_S64x584_S584x64_1_0) : (⟨S64x584, .f32⟩ : BufTy).Contents (Elt F) → (⟨S584x64, .f32⟩ : BufTy).Contents (Elt F)),
    StableHlo.binary main_v27 main_v28 main_v29 ((fun l r => Host.dotGeneral dot_S1999x584_S584x64_S1999x64_1_0_0_1_n_n none l r) : (⟨S1999x584, .f32⟩ : BufTy).Contents (Elt F) → (⟨S584x64, .f32⟩ : BufTy).Contents (Elt F) → (⟨S1999x64, .f32⟩ : BufTy).Contents (Elt F)),
    StableHlo.unary main_arg2 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S1999x64 ![0, 1] bcast_S1x64_S1999x64_0_1 : (⟨S1x64, .f32⟩ : BufTy).Contents (Elt F) → (⟨S1999x64, .f32⟩ : BufTy).Contents (Elt F)),
    StableHlo.binary main_v29 main_v31 main_v32 (addf : (⟨S1999x64, .f32⟩ : BufTy).Contents (Elt F) → (⟨S1999x64, .f32⟩ : BufTy).Contents (Elt F) → (⟨S1999x64, .f32⟩ : BufTy).Contents (Elt F)),
    StableHlo.binary main_v32 main_v32 main_v33 (mulf : (⟨S1999x64, .f32⟩ : BufTy).Contents (Elt F) → (⟨S1999x64, .f32⟩ : BufTy).Contents (Elt F) → (⟨S1999x64, .f32⟩ : BufTy).Contents (Elt F)),
    StableHlo.nullary main_cst_5 (constant S_ .f32 0x00000000#32),
    StableHlo.binary main_v33 main_cst_5 main_v34 ((fun x v => Host.reduceAdd x v reducesTo_S1999x64_S1999_d1 h_S_) : (⟨S1999x64, .f32⟩ : BufTy).Contents (Elt F) → (⟨S_, .f32⟩ : BufTy).Contents (Elt F) → (⟨S1999, .f32⟩ : BufTy).Contents (Elt F)),
    StableHlo.unary main_v34 main_v35 (broadcastInDim S1999x1 ![0] bcast_S1999_S1999x1_0 : (⟨S1999, .f32⟩ : BufTy).Contents (Elt F) → (⟨S1999x1, .f32⟩ : BufTy).Contents (Elt F)),
    StableHlo.binary main_arg3 main_arg3 main_v36 (mulf : (⟨S1024x64, .f32⟩ : BufTy).Contents (Elt F) → (⟨S1024x64, .f32⟩ : BufTy).Contents (Elt F) → (⟨S1024x64, .f32⟩ : BufTy).Contents (Elt F)),
    StableHlo.nullary main_cst_6 (constant S_ .f32 0x00000000#32),
    StableHlo.binary main_v36 main_cst_6 main_v37 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v37 main_v38 (broadcastInDim S1x1024 ![1] bcast_S1024_S1x1024_1 : (⟨S1024, .f32⟩ : BufTy).Contents (Elt F) → (⟨S1x1024, .f32⟩ : BufTy).Contents (Elt F)),
    StableHlo.unary main_v35 main_v39 (broadcastInDim S1999x1024 ![0, 1] bcast_S1999x1_S1999x1024_0_1 : (⟨S1999x1, .f32⟩ : BufTy).Contents (Elt F) → (⟨S1999x1024, .f32⟩ : BufTy).Contents (Elt F)),
    StableHlo.unary main_v38 main_v40 (broadcastInDim S1999x1024 ![0, 1] bcast_S1x1024_S1999x1024_0_1 : (⟨S1x1024, .f32⟩ : BufTy).Contents (Elt F) → (⟨S1999x1024, .f32⟩ : BufTy).Contents (Elt F)),
    StableHlo.binary main_v39 main_v40 main_v41 (addf : (⟨S1999x1024, .f32⟩ : BufTy).Contents (Elt F) → (⟨S1999x1024, .f32⟩ : BufTy).Contents (Elt F) → (⟨S1999x1024, .f32⟩ : BufTy).Contents (Elt F)),
    StableHlo.unary main_arg3 main_v42 ((transpose S64x1024 [1, 0] · transposes_S1024x64_S64x1024_1_0) : (⟨S1024x64, .f32⟩ : BufTy).Contents (Elt F) → (⟨S64x1024, .f32⟩ : BufTy).Contents (Elt F)),
    StableHlo.binary main_v32 main_v42 main_v43 ((fun l r => Host.dotGeneral dot_S1999x64_S64x1024_S1999x1024_1_0_0_1_n_n none l r) : (⟨S1999x64, .f32⟩ : BufTy).Contents (Elt F) → (⟨S64x1024, .f32⟩ : BufTy).Contents (Elt F) → (⟨S1999x1024, .f32⟩ : BufTy).Contents (Elt F)),
    StableHlo.nullary main_cst_7 (constant S_ .f32 0x40000000#32),
    StableHlo.unary main_cst_7 main_v44 (broadcastInDim S1999x1024 ![] bcast_S_S1999x1024 : (⟨S_, .f32⟩ : BufTy).Contents (Elt F) → (⟨S1999x1024, .f32⟩ : BufTy).Contents (Elt F)),
    StableHlo.binary main_v44 main_v43 main_v45 (mulf : (⟨S1999x1024, .f32⟩ : BufTy).Contents (Elt F) → (⟨S1999x1024, .f32⟩ : BufTy).Contents (Elt F) → (⟨S1999x1024, .f32⟩ : BufTy).Contents (Elt F)),
    StableHlo.binary main_v41 main_v45 main_v46 (subf : (⟨S1999x1024, .f32⟩ : BufTy).Contents (Elt F) → (⟨S1999x1024, .f32⟩ : BufTy).Contents (Elt F) → (⟨S1999x1024, .f32⟩ : BufTy).Contents (Elt F)),
    StableHlo.unary main_v46 main_v47 (Host.negf : (⟨S1999x1024, .f32⟩ : BufTy).Contents (Elt F) → (⟨S1999x1024, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.reshape_bufs_sub .., StableHlo.reshape_bufs_sub .., StableHlo.nary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub ..⟩
/-- 5 host operations of @argmax (main_call2), in order. -/
abbrev hostOps0_4 : List (HloOp τ sig (Elt F)) :=
  [ StableHlo.TRef.nullary (.of main_call2_v0 : StableHlo.TRef sig ⟨S1999x1024, .i32⟩) (iotaInDim S1999x1024 32 1),
    StableHlo.TRef.nullary (.of main_call2_cst : StableHlo.TRef sig ⟨S_, .f32⟩) (constant S_ .f32 0xFF800000#32),
    StableHlo.TRef.nullary (.of main_call2_c : StableHlo.TRef sig ⟨S_, .i32⟩) (constantI S_ 32 0#32),
    StableHlo.TRef.quaternary (.of main_v47 : StableHlo.TRef sig ⟨S1999x1024, .f32⟩) (.of main_call2_v0 : StableHlo.TRef sig ⟨S1999x1024, .i32⟩) (.of main_call2_cst : StableHlo.TRef sig ⟨S_, .f32⟩) (.of main_call2_c : StableHlo.TRef sig ⟨S_, .i32⟩) (.of main_call2_v1_0 : StableHlo.TRef sig ⟨S1999, .f32⟩) (fun x y u v j => (Host.argReduce reducer_argmax_f32_i32 x y u v reducesTo_S1999x1024_S1999_d1 h_S_ j).1),
    StableHlo.TRef.quaternary (.of main_v47 : StableHlo.TRef sig ⟨S1999x1024, .f32⟩) (.of main_call2_v0 : StableHlo.TRef sig ⟨S1999x1024, .i32⟩) (.of main_call2_cst : StableHlo.TRef sig ⟨S_, .f32⟩) (.of main_call2_c : StableHlo.TRef sig ⟨S_, .i32⟩) (.of main_v48 : StableHlo.TRef sig ⟨S1999, .i32⟩) (fun x y u v j => (Host.argReduce reducer_argmax_f32_i32 x y u v reducesTo_S1999x1024_S1999_d1 h_S_ j).2) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 19 host operations of @main, window 0 (statements 1 … 60), in order. -/
abbrev main_part0_ops0 : List (HloOp τ sig (Elt F)) :=
  [ StableHlo.nullary main_v0 (iotaInDim S1999 32 0),
    StableHlo.nullary main_c (constantI S_ 32 50#32),
    StableHlo.unary main_c main_v1 (broadcastInDim S1999 ![] bcast_S_S1999 : (⟨S_, .i32⟩ : BufTy).Contents (Elt F) → (⟨S1999, .i32⟩ : BufTy).Contents (Elt F)),
    StableHlo.binary main_v0 main_v1 main_v2 (muli : (⟨S1999, .i32⟩ : BufTy).Contents (Elt F) → (⟨S1999, .i32⟩ : BufTy).Contents (Elt F) → (⟨S1999, .i32⟩ : BufTy).Contents (Elt F)),
    StableHlo.unary main_v2 main_v3 (broadcastInDim S1999x1 ![0] bcast_S1999_S1999x1_0 : (⟨S1999, .i32⟩ : BufTy).Contents (Elt F) → (⟨S1999x1, .i32⟩ : BufTy).Contents (Elt F)),
    StableHlo.nullary main_v4 (iotaInDim S100 32 0),
    StableHlo.unary main_v4 main_v5 (broadcastInDim S1x100 ![1] bcast_S100_S1x100_1 : (⟨S100, .i32⟩ : BufTy).Contents (Elt F) → (⟨S1x100, .i32⟩ : BufTy).Contents (Elt F)),
    StableHlo.unary main_v3 main_v6 (broadcastInDim S1999x100 ![0, 1] bcast_S1999x1_S1999x100_0_1 : (⟨S1999x1, .i32⟩ : BufTy).Contents (Elt F) → (⟨S1999x100, .i32⟩ : BufTy).Contents (Elt F)),
    StableHlo.unary main_v5 main_v7 (broadcastInDim S1999x100 ![0, 1] bcast_S1x100_S1999x100_0_1 : (⟨S1x100, .i32⟩ : BufTy).Contents (Elt F) → (⟨S1999x100, .i32⟩ : BufTy).Contents (Elt F)),
    StableHlo.binary main_v6 main_v7 main_v8 (addi : (⟨S1999x100, .i32⟩ : BufTy).Contents (Elt F) → (⟨S1999x100, .i32⟩ : BufTy).Contents (Elt F) → (⟨S1999x100, .i32⟩ : BufTy).Contents (Elt F)),
    StableHlo.nullary main_c_0 (constantI S_ 32 0#32),
    StableHlo.unary main_c_0 main_v9 (broadcastInDim S1999x100 ![] bcast_S_S1999x100 : (⟨S_, .i32⟩ : BufTy).Contents (Elt F) → (⟨S1999x100, .i32⟩ : BufTy).Contents (Elt F)),
    StableHlo.binary main_v8 main_v9 main_v10 (cmpi .slt : (⟨S1999x100, .i32⟩ : BufTy).Contents (Elt F) → (⟨S1999x100, .i32⟩ : BufTy).Contents (Elt F) → (⟨S1999x100, .i1⟩ : BufTy).Contents (Elt F)),
    StableHlo.nullary main_c_1 (constantI S_ 32 100000#32),
    StableHlo.unary main_c_1 main_v11 (broadcastInDim S1999x100 ![] bcast_S_S1999x100 : (⟨S_, .i32⟩ : BufTy).Contents (Elt F) → (⟨S1999x100, .i32⟩ : BufTy).Contents (Elt F)),
    StableHlo.binary main_v8 main_v11 main_v12 (addi : (⟨S1999x100, .i32⟩ : BufTy).Contents (Elt F) → (⟨S1999x100, .i32⟩ : BufTy).Contents (Elt F) → (⟨S1999x100, .i32⟩ : BufTy).Contents (Elt F)),
    StableHlo.ternary main_v10 main_v12 main_v8 main_v13 (select : (⟨S1999x100, .i1⟩ : BufTy).Contents (Elt F) → (⟨S1999x100, .i32⟩ : BufTy).Contents (Elt F) → (⟨S1999x100, .i32⟩ : BufTy).Contents (Elt F) → (⟨S1999x100, .i32⟩ : BufTy).Contents (Elt F)),
    StableHlo.unary main_v13 main_v14 (broadcastInDim S1999x100x1 ![0, 1] bcast_S1999x100_S1999x100x1_0_1 : (⟨S1999x100, .i32⟩ : BufTy).Contents (Elt F) → (⟨S1999x100x1, .i32⟩ : BufTy).Contents (Elt F)),
    StableHlo.binary main_arg0 main_v14 main_v15 ((fun x i => Host.gather gather_S100000x8_S1999x100x1_S1999x100x8_2_0_n_n_0_2_18 x i) : (⟨S100000x8, .f32⟩ : BufTy).Contents (Elt F) → (⟨S1999x100x1, .i32⟩ : BufTy).Contents (Elt F) → (⟨S1999x100x8, .f32⟩ : BufTy).Contents (Elt F)) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- 3 host operations of @diff (main_call0), window 0 (statements 1 … 60), in order. -/
abbrev main_part0_ops1 : List (HloOp τ sig (Elt F)) :=
  [ StableHlo.TRef.unary (.of main_v15 : StableHlo.TRef sig ⟨S1999x100x8, .f32⟩) (.of main_call0_v0 : StableHlo.TRef sig ⟨S1999x99x8, .f32⟩) (extractStridedSlice S1999x99x8 ![0, 1, 0] · slices_S1999x100x8_S1999x99x8_0_1_0),
    StableHlo.TRef.unary (.of main_v15 : StableHlo.TRef sig ⟨S1999x100x8, .f32⟩) (.of main_call0_v1 : StableHlo.TRef sig ⟨S1999x99x8, .f32⟩) (extractStridedSlice S1999x99x8 ![0, 0, 0] · slices_S1999x100x8_S1999x99x8_0_0_0),
    StableHlo.TRef.binary (.of main_call0_v0 : StableHlo.TRef sig ⟨S1999x99x8, .f32⟩) (.of main_call0_v1 : StableHlo.TRef sig ⟨S1999x99x8, .f32⟩) (.of main_v16 : StableHlo.TRef sig ⟨S1999x99x8, .f32⟩) subf ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.binary_bufs_sub ..⟩
/-- 16 host operations of @main, window 0 (statements 1 … 60), in order. -/
abbrev main_part0_ops2 : List (HloOp τ sig (Elt F)) :=
  [ StableHlo.nullary main_cst (constant S_ .f32 0x00000000#32),
    StableHlo.unary main_cst main_v17 (broadcastInDim S8 ![] bcast_S_S8 : (⟨S_, .f32⟩ : BufTy).Contents (Elt F) → (⟨S8, .f32⟩ : BufTy).Contents (Elt F)),
    StableHlo.nullary main_cst_2 (constant S_ .f32 0x00000000#32),
    StableHlo.unary main_cst_2 main_v18 (broadcastInDim S8x8 ![] bcast_S_S8x8 : (⟨S_, .f32⟩ : BufTy).Contents (Elt F) → (⟨S8x8, .f32⟩ : BufTy).Contents (Elt F)),
    StableHlo.nullary main_cst_3 (constant S_ .f32 0x00000000#32),
    StableHlo.unary main_cst_3 main_v19 (broadcastInDim S8x8x8 ![] bcast_S_S8x8x8 : (⟨S_, .f32⟩ : BufTy).Contents (Elt F) → (⟨S8x8x8, .f32⟩ : BufTy).Contents (Elt F)),
    StableHlo.unary main_v17 main_v20 (broadcastInDim S1999x8 ![1] bcast_S8_S1999x8_1 : (⟨S8, .f32⟩ : BufTy).Contents (Elt F) → (⟨S1999x8, .f32⟩ : BufTy).Contents (Elt F)),
    StableHlo.unary main_v18 main_v21 (broadcastInDim S1999x8x8 ![1, 2] bcast_S8x8_S1999x8x8_1_2 : (⟨S8x8, .f32⟩ : BufTy).Contents (Elt F) → (⟨S1999x8x8, .f32⟩ : BufTy).Contents (Elt F)),
    StableHlo.unary main_v19 main_v22 (broadcastInDim S1999x8x8x8 ![1, 2, 3] bcast_S8x8x8_S1999x8x8x8_1_2_3 : (⟨S8x8x8, .f32⟩ : BufTy).Contents (Elt F) → (⟨S1999x8x8x8, .f32⟩ : BufTy).Contents (Elt F)),
    StableHlo.unary main_v16 main_v23 ((transpose S99x1999x8 [1, 0, 2] · transposes_S1999x99x8_S99x1999x8_1_0_2) : (⟨S1999x99x8, .f32⟩ : BufTy).Contents (Elt F) → (⟨S99x1999x8, .f32⟩ : BufTy).Contents (Elt F)),
    StableHlo.nullary main_c_4 (constantI S_ 32 0#32),
    StableHlo.unary main_v23 main_v24_0 id,
    StableHlo.unary main_c_4 main_v24_1 id,
    StableHlo.unary main_v20 main_v24_2 id,
    StableHlo.unary main_v21 main_v24_3 id,
    StableHlo.unary main_v22 main_v24_4 id ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 23 host operations of @main, window 0 (statements 1 … 60), in order. -/
abbrev main_part0_ops3 : List (HloOp τ sig (Elt F)) :=
  [ StableHlo.reshape main_v24_3 main_v25 (rfl : (.f32 : EltTy) = .f32) shapeCasts_S1999x8x8_S1999x64,
    StableHlo.reshape main_v24_4 main_v26 (rfl : (.f32 : EltTy) = .f32) shapeCasts_S1999x8x8x8_S1999x512,
    StableHlo.nary ![main_v24_2, main_v25, main_v26] main_v27 (fun u => (concatenate S1999x584 1 [⟨S1999x8, (u 0 : (⟨S1999x8, .f32⟩ : BufTy).Contents (Elt F))⟩, ⟨S1999x64, (u 1 : (⟨S1999x64, .f32⟩ : BufTy).Contents (Elt F))⟩, ⟨S1999x512, (u 2 : (⟨S1999x512, .f32⟩ : BufTy).Contents (Elt F))⟩] concatenates_S1999x8_S1999x64_S1999x512_S1999x584_d1 : (⟨S1999x584, .f32⟩ : BufTy).Contents (Elt F))),
    StableHlo.unary main_arg1 main_v28 ((transpose S584x64 [1, 0] · transposes_S64x584_S584x64_1_0) : (⟨S64x584, .f32⟩ : BufTy).Contents (Elt F) → (⟨S584x64, .f32⟩ : BufTy).Contents (Elt F)),
    StableHlo.binary main_v27 main_v28 main_v29 ((fun l r => Host.dotGeneral dot_S1999x584_S584x64_S1999x64_1_0_0_1_n_n none l r) : (⟨S1999x584, .f32⟩ : BufTy).Contents (Elt F) → (⟨S584x64, .f32⟩ : BufTy).Contents (Elt F) → (⟨S1999x64, .f32⟩ : BufTy).Contents (Elt F)),
    StableHlo.unary main_arg2 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S1999x64 ![0, 1] bcast_S1x64_S1999x64_0_1 : (⟨S1x64, .f32⟩ : BufTy).Contents (Elt F) → (⟨S1999x64, .f32⟩ : BufTy).Contents (Elt F)),
    StableHlo.binary main_v29 main_v31 main_v32 (addf : (⟨S1999x64, .f32⟩ : BufTy).Contents (Elt F) → (⟨S1999x64, .f32⟩ : BufTy).Contents (Elt F) → (⟨S1999x64, .f32⟩ : BufTy).Contents (Elt F)),
    StableHlo.binary main_v32 main_v32 main_v33 (mulf : (⟨S1999x64, .f32⟩ : BufTy).Contents (Elt F) → (⟨S1999x64, .f32⟩ : BufTy).Contents (Elt F) → (⟨S1999x64, .f32⟩ : BufTy).Contents (Elt F)),
    StableHlo.nullary main_cst_5 (constant S_ .f32 0x00000000#32),
    StableHlo.binary main_v33 main_cst_5 main_v34 ((fun x v => Host.reduceAdd x v reducesTo_S1999x64_S1999_d1 h_S_) : (⟨S1999x64, .f32⟩ : BufTy).Contents (Elt F) → (⟨S_, .f32⟩ : BufTy).Contents (Elt F) → (⟨S1999, .f32⟩ : BufTy).Contents (Elt F)),
    StableHlo.unary main_v34 main_v35 (broadcastInDim S1999x1 ![0] bcast_S1999_S1999x1_0 : (⟨S1999, .f32⟩ : BufTy).Contents (Elt F) → (⟨S1999x1, .f32⟩ : BufTy).Contents (Elt F)),
    StableHlo.binary main_arg3 main_arg3 main_v36 (mulf : (⟨S1024x64, .f32⟩ : BufTy).Contents (Elt F) → (⟨S1024x64, .f32⟩ : BufTy).Contents (Elt F) → (⟨S1024x64, .f32⟩ : BufTy).Contents (Elt F)),
    StableHlo.nullary main_cst_6 (constant S_ .f32 0x00000000#32),
    StableHlo.binary main_v36 main_cst_6 main_v37 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v37 main_v38 (broadcastInDim S1x1024 ![1] bcast_S1024_S1x1024_1 : (⟨S1024, .f32⟩ : BufTy).Contents (Elt F) → (⟨S1x1024, .f32⟩ : BufTy).Contents (Elt F)),
    StableHlo.unary main_v35 main_v39 (broadcastInDim S1999x1024 ![0, 1] bcast_S1999x1_S1999x1024_0_1 : (⟨S1999x1, .f32⟩ : BufTy).Contents (Elt F) → (⟨S1999x1024, .f32⟩ : BufTy).Contents (Elt F)),
    StableHlo.unary main_v38 main_v40 (broadcastInDim S1999x1024 ![0, 1] bcast_S1x1024_S1999x1024_0_1 : (⟨S1x1024, .f32⟩ : BufTy).Contents (Elt F) → (⟨S1999x1024, .f32⟩ : BufTy).Contents (Elt F)),
    StableHlo.binary main_v39 main_v40 main_v41 (addf : (⟨S1999x1024, .f32⟩ : BufTy).Contents (Elt F) → (⟨S1999x1024, .f32⟩ : BufTy).Contents (Elt F) → (⟨S1999x1024, .f32⟩ : BufTy).Contents (Elt F)),
    StableHlo.unary main_arg3 main_v42 ((transpose S64x1024 [1, 0] · transposes_S1024x64_S64x1024_1_0) : (⟨S1024x64, .f32⟩ : BufTy).Contents (Elt F) → (⟨S64x1024, .f32⟩ : BufTy).Contents (Elt F)),
    StableHlo.binary main_v32 main_v42 main_v43 ((fun l r => Host.dotGeneral dot_S1999x64_S64x1024_S1999x1024_1_0_0_1_n_n none l r) : (⟨S1999x64, .f32⟩ : BufTy).Contents (Elt F) → (⟨S64x1024, .f32⟩ : BufTy).Contents (Elt F) → (⟨S1999x1024, .f32⟩ : BufTy).Contents (Elt F)),
    StableHlo.nullary main_cst_7 (constant S_ .f32 0x40000000#32),
    StableHlo.unary main_cst_7 main_v44 (broadcastInDim S1999x1024 ![] bcast_S_S1999x1024 : (⟨S_, .f32⟩ : BufTy).Contents (Elt F) → (⟨S1999x1024, .f32⟩ : BufTy).Contents (Elt F)) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.reshape_bufs_sub .., StableHlo.reshape_bufs_sub .., StableHlo.nary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    HostLoop.enter 0 ]
  (StableHlo.seq main_part0_ops3) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

/-- 3 host operations of @main, window 1 (statements 61 … 65), in order. -/
abbrev main_part1_ops0 : List (HloOp τ sig (Elt F)) :=
  [ StableHlo.binary main_v44 main_v43 main_v45 (mulf : (⟨S1999x1024, .f32⟩ : BufTy).Contents (Elt F) → (⟨S1999x1024, .f32⟩ : BufTy).Contents (Elt F) → (⟨S1999x1024, .f32⟩ : BufTy).Contents (Elt F)),
    StableHlo.binary main_v41 main_v45 main_v46 (subf : (⟨S1999x1024, .f32⟩ : BufTy).Contents (Elt F) → (⟨S1999x1024, .f32⟩ : BufTy).Contents (Elt F) → (⟨S1999x1024, .f32⟩ : BufTy).Contents (Elt F)),
    StableHlo.unary main_v46 main_v47 (Host.negf : (⟨S1999x1024, .f32⟩ : BufTy).Contents (Elt F) → (⟨S1999x1024, .f32⟩ : BufTy).Contents (Elt F)) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.binary_bufs_sub .., StableHlo.binary_bufs_sub .., StableHlo.unary_bufs_sub ..⟩
/-- 5 host operations of @argmax (main_call2), window 1 (statements 61 … 65), in order. -/
abbrev main_part1_ops1 : List (HloOp τ sig (Elt F)) :=
  [ StableHlo.TRef.nullary (.of main_call2_v0 : StableHlo.TRef sig ⟨S1999x1024, .i32⟩) (iotaInDim S1999x1024 32 1),
    StableHlo.TRef.nullary (.of main_call2_cst : StableHlo.TRef sig ⟨S_, .f32⟩) (constant S_ .f32 0xFF800000#32),
    StableHlo.TRef.nullary (.of main_call2_c : StableHlo.TRef sig ⟨S_, .i32⟩) (constantI S_ 32 0#32),
    StableHlo.TRef.quaternary (.of main_v47 : StableHlo.TRef sig ⟨S1999x1024, .f32⟩) (.of main_call2_v0 : StableHlo.TRef sig ⟨S1999x1024, .i32⟩) (.of main_call2_cst : StableHlo.TRef sig ⟨S_, .f32⟩) (.of main_call2_c : StableHlo.TRef sig ⟨S_, .i32⟩) (.of main_call2_v1_0 : StableHlo.TRef sig ⟨S1999, .f32⟩) (fun x y u v j => (Host.argReduce reducer_argmax_f32_i32 x y u v reducesTo_S1999x1024_S1999_d1 h_S_ j).1),
    StableHlo.TRef.quaternary (.of main_v47 : StableHlo.TRef sig ⟨S1999x1024, .f32⟩) (.of main_call2_v0 : StableHlo.TRef sig ⟨S1999x1024, .i32⟩) (.of main_call2_cst : StableHlo.TRef sig ⟨S_, .f32⟩) (.of main_call2_c : StableHlo.TRef sig ⟨S_, .i32⟩) (.of main_v48 : StableHlo.TRef sig ⟨S1999, .i32⟩) (fun x y u v j => (Host.argReduce reducer_argmax_f32_i32 x y u v reducesTo_S1999x1024_S1999_d1 h_S_ j).2) ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- The last window of `main` (`main_part1`, statements 61 … 65) is the chain of ITS items, each item aligned with the window's
    statements, then `chain_rfl`. -/
theorem main_part1_chain (c : Dev nD) : main_part1 (F := F) c = (Pipeline.chain
  [ StableHlo.seq main_part1_ops0,
    StableHlo.seq main_part1_ops1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    HostLoop.enter 0,
    StableHlo.seq main_part0_ops3,
    StableHlo.seq main_part1_ops0,
    StableHlo.seq main_part1_ops1 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .prog (HostLoop.enter 0),
    .ops [main_part0_ops3, main_part1_ops0],
    .ops [main_part1_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    HostLoop.enter 0,
    StableHlo.seq main_part0_ops3,
    StableHlo.seq main_part1_ops0,
    StableHlo.seq main_part1_ops1 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    HostLoop.enter 0,
    StableHlo.seq hostOps0_3,
    StableHlo.seq hostOps0_4 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    HostLoop.enter 0,
    StableHlo.seq hostOps0_3,
    StableHlo.seq hostOps0_4 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 4 host operations of @dynamic_index_in_dim (main_while0b_call1), in order. -/
abbrev while0Ops0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v24_0 : StableHlo.TRef sig ⟨S99x1999x8, .f32⟩) ![(.of main_v24_1 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1999x8, .f32⟩) (fun x i => Host.dynamicSlice S1x1999x8 x (fun k => (i k (Shape.Idx.first h_S_)).toInt) sliceFits_S99x1999x8_S1x1999x8),
    StableHlo.TRef.reshape (.of main_while0b_call1_v0 : StableHlo.TRef sig ⟨S1x1999x8, .f32⟩) (.of main_while0b_v49 : StableHlo.TRef sig ⟨S1999x8, .f32⟩) (rfl : (.f32 : EltTy) = .f32) shapeCasts_S1x1999x8_S1999x8 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 47 host operations of host loop 0's body region, in order. -/
abbrev while0Ops0_1 : List (HloOp τ sig (Elt F)) :=
  ( StableHlo.unary main_while0b_v49 main_while0b_v50 (broadcastInDim S1999x8x1 ![0, 1] bcast_S1999x8_S1999x8x1_0_1 : (⟨S1999x8, .f32⟩ : BufTy).Contents (Elt F) → (⟨S1999x8x1, .f32⟩ : BufTy).Contents (Elt F))
  :: StableHlo.unary main_while0b_v49 main_while0b_v51 (broadcastInDim S1999x1x8 ![0, 2] bcast_S1999x8_S1999x1x8_0_2 : (⟨S1999x8, .f32⟩ : BufTy).Contents (Elt F) → (⟨S1999x1x8, .f32⟩ : BufTy).Contents (Elt F))
  :: StableHlo.unary main_while0b_v50 main_while0b_v52 (broadcastInDim S1999x8x8 ![0, 1, 2] bcast_S1999x8x1_S1999x8x8_0_1_2 : (⟨S1999x8x1, .f32⟩ : BufTy).Contents (Elt F) → (⟨S1999x8x8, .f32⟩ : BufTy).Contents (Elt F))
  :: StableHlo.unary main_while0b_v51 main_while0b_v53 (broadcastInDim S1999x8x8 ![0, 1, 2] bcast_S1999x1x8_S1999x8x8_0_1_2 : (⟨S1999x1x8, .f32⟩ : BufTy).Contents (Elt F) → (⟨S1999x8x8, .f32⟩ : BufTy).Contents (Elt F))
  :: StableHlo.binary main_while0b_v52 main_while0b_v53 main_while0b_v54 (mulf : (⟨S1999x8x8, .f32⟩ : BufTy).Contents (Elt F) → (⟨S1999x8x8, .f32⟩ : BufTy).Contents (Elt F) → (⟨S1999x8x8, .f32⟩ : BufTy).Contents (Elt F))
  :: StableHlo.nullary main_while0b_cst_12 (constant S_ .f32 0x40000000#32)
  :: StableHlo.unary main_while0b_cst_12 main_while0b_v55 (broadcastInDim S1999x8x8 ![] bcast_S_S1999x8x8 : (⟨S_, .f32⟩ : BufTy).Contents (Elt F) → (⟨S1999x8x8, .f32⟩ : BufTy).Contents (Elt F))
  :: StableHlo.binary main_while0b_v54 main_while0b_v55 main_while0b_v56 (Host.divf : (⟨S1999x8x8, .f32⟩ : BufTy).Contents (Elt F) → (⟨S1999x8x8, .f32⟩ : BufTy).Contents (Elt F) → (⟨S1999x8x8, .f32⟩ : BufTy).Contents (Elt F))
  :: StableHlo.unary main_while0b_v49 main_while0b_v57 (broadcastInDim S1999x8x1x1 ![0, 1] bcast_S1999x8_S1999x8x1x1_0_1 : (⟨S1999x8, .f32⟩ : BufTy).Contents (Elt F) → (⟨S1999x8x1x1, .f32⟩ : BufTy).Contents (Elt F))
  :: StableHlo.unary main_while0b_v49 main_while0b_v58 (broadcastInDim S1999x1x8x1 ![0, 2] bcast_S1999x8_S1999x1x8x1_0_2 : (⟨S1999x8, .f32⟩ : BufTy).Contents (Elt F) → (⟨S1999x1x8x1, .f32⟩ : BufTy).Contents (Elt F))
  :: StableHlo.unary main_while0b_v57 main_while0b_v59 (broadcastInDim S1999x8x8x1 ![0, 1, 2, 3] bcast_S1999x8x1x1_S1999x8x8x1_0_1_2_3 : (⟨S1999x8x1x1, .f32⟩ : BufTy).Contents (Elt F) → (⟨S1999x8x8x1, .f32⟩ : BufTy).Contents (Elt F))
  :: StableHlo.unary main_while0b_v58 main_while0b_v60 (broadcastInDim S1999x8x8x1 ![0, 1, 2, 3] bcast_S1999x1x8x1_S1999x8x8x1_0_1_2_3 : (⟨S1999x1x8x1, .f32⟩ : BufTy).Contents (Elt F) → (⟨S1999x8x8x1, .f32⟩ : BufTy).Contents (Elt F))
  :: StableHlo.binary main_while0b_v59 main_while0b_v60 main_while0b_v61 (mulf : (⟨S1999x8x8x1, .f32⟩ : BufTy).Contents (Elt F) → (⟨S1999x8x8x1, .f32⟩ : BufTy).Contents (Elt F) → (⟨S1999x8x8x1, .f32⟩ : BufTy).Contents (Elt F))
  :: StableHlo.unary main_while0b_v49 main_while0b_v62 (broadcastInDim S1999x1x1x8 ![0, 3] bcast_S1999x8_S1999x1x1x8_0_3 : (⟨S1999x8, .f32⟩ : BufTy).Contents (Elt F) → (⟨S1999x1x1x8, .f32⟩ : BufTy).Contents (Elt F))
  :: StableHlo.unary main_while0b_v61 main_while0b_v63 (broadcastInDim S1999x8x8x8 ![0, 1, 2, 3] bcast_S1999x8x8x1_S1999x8x8x8_0_1_2_3 : (⟨S1999x8x8x1, .f32⟩ : BufTy).Contents (Elt F) → (⟨S1999x8x8x8, .f32⟩ : BufTy).Contents (Elt F))
  :: StableHlo.unary main_while0b_v62 main_while0b_v64 (broadcastInDim S1999x8x8x8 ![0, 1, 2, 3] bcast_S1999x1x1x8_S1999x8x8x8_0_1_2_3 : (⟨S1999x1x1x8, .f32⟩ : BufTy).Contents (Elt F) → (⟨S1999x8x8x8, .f32⟩ : BufTy).Contents (Elt F))
  :: StableHlo.binary main_while0b_v63 main_while0b_v64 main_while0b_v65 (mulf : (⟨S1999x8x8x8, .f32⟩ : BufTy).Contents (Elt F) → (⟨S1999x8x8x8, .f32⟩ : BufTy).Contents (Elt F) → (⟨S1999x8x8x8, .f32⟩ : BufTy).Contents (Elt F))
  :: StableHlo.nullary main_while0b_cst_13 (constant S_ .f32 0x40C00000#32)
  :: StableHlo.unary main_while0b_cst_13 main_while0b_v66 (broadcastInDim S1999x8x8x8 ![] bcast_S_S1999x8x8x8 : (⟨S_, .f32⟩ : BufTy).Contents (Elt F) → (⟨S1999x8x8x8, .f32⟩ : BufTy).Contents (Elt F))
  :: StableHlo.binary main_while0b_v65 main_while0b_v66 main_while0b_v67 (Host.divf : (⟨S1999x8x8x8, .f32⟩ : BufTy).Contents (Elt F) → (⟨S1999x8x8x8, .f32⟩ : BufTy).Contents (Elt F) → (⟨S1999x8x8x8, .f32⟩ : BufTy).Contents (Elt F))
  :: StableHlo.binary main_v24_2 main_while0b_v49 main_while0b_v68 (addf : (⟨S1999x8, .f32⟩ : BufTy).Contents (Elt F) → (⟨S1999x8, .f32⟩ : BufTy).Contents (Elt F) → (⟨S1999x8, .f32⟩ : BufTy).Contents (Elt F))
  :: StableHlo.binary main_v24_3 main_while0b_v56 main_while0b_v69 (addf : (⟨S1999x8x8, .f32⟩ : BufTy).Contents (Elt F) → (⟨S1999x8x8, .f32⟩ : BufTy).Contents (Elt F) → (⟨S1999x8x8, .f32⟩ : BufTy).Contents (Elt F))
  :: StableHlo.unary main_v24_2 main_while0b_v70 (broadcastInDim S1999x8x1 ![0, 1] bcast_S1999x8_S1999x8x1_0_1 : (⟨S1999x8, .f32⟩ : BufTy).Contents (Elt F) → (⟨S1999x8x1, .f32⟩ : BufTy).Contents (Elt F))
  :: StableHlo.unary main_while0b_v49 main_while0b_v71 (broadcastInDim S1999x1x8 ![0, 2] bcast_S1999x8_S1999x1x8_0_2 : (⟨S1999x8, .f32⟩ : BufTy).Contents (Elt F) → (⟨S1999x1x8, .f32⟩ : BufTy).Contents (Elt F))
  :: StableHlo.unary main_while0b_v70 main_while0b_v72 (broadcastInDim S1999x8x8 ![0, 1, 2] bcast_S1999x8x1_S1999x8x8_0_1_2 : (⟨S1999x8x1, .f32⟩ : BufTy).Contents (Elt F) → (⟨S1999x8x8, .f32⟩ : BufTy).Contents (Elt F))
  :: StableHlo.unary main_while0b_v71 main_while0b_v73 (broadcastInDim S1999x8x8 ![0, 1, 2] bcast_S1999x1x8_S1999x8x8_0_1_2 : (⟨S1999x1x8, .f32⟩ : BufTy).Contents (Elt F) → (⟨S1999x8x8, .f32⟩ : BufTy).Contents (Elt F))
  :: StableHlo.binary main_while0b_v72 main_while0b_v73 main_while0b_v74 (mulf : (⟨S1999x8x8, .f32⟩ : BufTy).Contents (Elt F) → (⟨S1999x8x8, .f32⟩ : BufTy).Contents (Elt F) → (⟨S1999x8x8, .f32⟩ : BufTy).Contents (Elt F))
  :: StableHlo.binary main_while0b_v69 main_while0b_v74 main_while0b_v75 (addf : (⟨S1999x8x8, .f32⟩ : BufTy).Contents (Elt F) → (⟨S1999x8x8, .f32⟩ : BufTy).Contents (Elt F) → (⟨S1999x8x8, .f32⟩ : BufTy).Contents (Elt F))
  :: StableHlo.binary main_v24_4 main_while0b_v67 main_while0b_v76 (addf : (⟨S1999x8x8x8, .f32⟩ : BufTy).Contents (Elt F) → (⟨S1999x8x8x8, .f32⟩ : BufTy).Contents (Elt F) → (⟨S1999x8x8x8, .f32⟩ : BufTy).Contents (Elt F))
  :: StableHlo.unary main_v24_2 main_while0b_v77 (broadcastInDim S1999x8x1x1 ![0, 1] bcast_S1999x8_S1999x8x1x1_0_1 : (⟨S1999x8, .f32⟩ : BufTy).Contents (Elt F) → (⟨S1999x8x1x1, .f32⟩ : BufTy).Contents (Elt F))
  :: StableHlo.unary main_while0b_v56 main_while0b_v78 (broadcastInDim S1999x1x8x8 ![0, 2, 3] bcast_S1999x8x8_S1999x1x8x8_0_2_3 : (⟨S1999x8x8, .f32⟩ : BufTy).Contents (Elt F) → (⟨S1999x1x8x8, .f32⟩ : BufTy).Contents (Elt F))
  :: StableHlo.unary main_while0b_v77 main_while0b_v79 (broadcastInDim S1999x8x8x8 ![0, 1, 2, 3] bcast_S1999x8x1x1_S1999x8x8x8_0_1_2_3 : (⟨S1999x8x1x1, .f32⟩ : BufTy).Contents (Elt F) → (⟨S1999x8x8x8, .f32⟩ : BufTy).Contents (Elt F))
  :: StableHlo.unary main_while0b_v78 main_while0b_v80 (broadcastInDim S1999x8x8x8 ![0, 1, 2, 3] bcast_S1999x1x8x8_S1999x8x8x8_0_1_2_3 : (⟨S1999x1x8x8, .f32⟩ : BufTy).Contents (Elt F) → (⟨S1999x8x8x8, .f32⟩ : BufTy).Contents (Elt F))
  :: StableHlo.binary main_while0b_v79 main_while0b_v80 main_while0b_v81 (mulf : (⟨S1999x8x8x8, .f32⟩ : BufTy).Contents (Elt F) → (⟨S1999x8x8x8, .f32⟩ : BufTy).Contents (Elt F) → (⟨S1999x8x8x8, .f32⟩ : BufTy).Contents (Elt F))
  :: StableHlo.binary main_while0b_v76 main_while0b_v81 main_while0b_v82 (addf : (⟨S1999x8x8x8, .f32⟩ : BufTy).Contents (Elt F) → (⟨S1999x8x8x8, .f32⟩ : BufTy).Contents (Elt F) → (⟨S1999x8x8x8, .f32⟩ : BufTy).Contents (Elt F))
  :: StableHlo.unary main_v24_3 main_while0b_v83 (broadcastInDim S1999x8x8x1 ![0, 1, 2] bcast_S1999x8x8_S1999x8x8x1_0_1_2 : (⟨S1999x8x8, .f32⟩ : BufTy).Contents (Elt F) → (⟨S1999x8x8x1, .f32⟩ : BufTy).Contents (Elt F))
  :: StableHlo.unary main_while0b_v49 main_while0b_v84 (broadcastInDim S1999x1x1x8 ![0, 3] bcast_S1999x8_S1999x1x1x8_0_3 : (⟨S1999x8, .f32⟩ : BufTy).Contents (Elt F) → (⟨S1999x1x1x8, .f32⟩ : BufTy).Contents (Elt F))
  :: StableHlo.unary main_while0b_v83 main_while0b_v85 (broadcastInDim S1999x8x8x8 ![0, 1, 2, 3] bcast_S1999x8x8x1_S1999x8x8x8_0_1_2_3 : (⟨S1999x8x8x1, .f32⟩ : BufTy).Contents (Elt F) → (⟨S1999x8x8x8, .f32⟩ : BufTy).Contents (Elt F))
  :: StableHlo.unary main_while0b_v84 main_while0b_v86 (broadcastInDim S1999x8x8x8 ![0, 1, 2, 3] bcast_S1999x1x1x8_S1999x8x8x8_0_1_2_3 : (⟨S1999x1x1x8, .f32⟩ : BufTy).Contents (Elt F) → (⟨S1999x8x8x8, .f32⟩ : BufTy).Contents (Elt F))
  :: StableHlo.binary main_while0b_v85 main_while0b_v86 main_while0b_v87 (mulf : (⟨S1999x8x8x8, .f32⟩ : BufTy).Contents (Elt F) → (⟨S1999x8x8x8, .f32⟩ : BufTy).Contents (Elt F) → (⟨S1999x8x8x8, .f32⟩ : BufTy).Contents (Elt F))
  :: StableHlo.binary main_while0b_v82 main_while0b_v87 main_while0b_v88 (addf : (⟨S1999x8x8x8, .f32⟩ : BufTy).Contents (Elt F) → (⟨S1999x8x8x8, .f32⟩ : BufTy).Contents (Elt F) → (⟨S1999x8x8x8, .f32⟩ : BufTy).Contents (Elt F))
  :: StableHlo.nullary main_while0b_c_14 (constantI S_ 32 1#32)
  :: StableHlo.binary main_v24_1 main_while0b_c_14 main_while0b_v89 (addi : (⟨S_, .i32⟩ : BufTy).Contents (Elt F) → (⟨S_, .i32⟩ : BufTy).Contents (Elt F) → (⟨S_, .i32⟩ : BufTy).Contents (Elt F))
  :: StableHlo.unary main_while0b_v89 main_v24_1 id
  :: StableHlo.unary main_while0b_v68 main_v24_2 id
  :: StableHlo.unary main_while0b_v75 main_v24_3 id
  :: StableHlo.unary main_while0b_v88 main_v24_4 id
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds. -/
theorem while0_body_chain : main_while0_body (F := F) = (Pipeline.chain
  [ StableHlo.seq while0Ops0,
    StableHlo.seq while0Ops0_1 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_c, main_v1, main_v2, main_v3, main_v4, main_v5, main_v6, main_v7, main_v8, main_c_0, main_v9, main_v10, main_c_1, main_v11, main_v12, main_v13, main_v14, main_v15]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_cst, main_v17, main_cst_2, main_v18, main_cst_3, main_v19, main_v20, main_v21, main_v22, main_v23, main_c_4, main_v24_0, main_v24_1, main_v24_2, main_v24_3, main_v24_4]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call1_c, main_while0b_call1_c_0, main_while0b_call1_v0, main_while0b_v49]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v50, main_while0b_v51, main_while0b_v52, main_while0b_v53, main_while0b_v54, main_while0b_cst_12, main_while0b_v55, main_while0b_v56, main_while0b_v57, main_while0b_v58, main_while0b_v59, main_while0b_v60, main_while0b_v61, main_while0b_v62, main_while0b_v63, main_while0b_v64, main_while0b_v65, main_while0b_cst_13, main_while0b_v66, main_while0b_v67, main_while0b_v68, main_while0b_v69, main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_c_14, main_while0b_v89, main_v24_1, main_v24_2, main_v24_3, main_v24_4]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_3` writes, in order. -/
abbrev hostOps0_3_W : List (Ref sig .tc) := [main_v25, main_v26, main_v27, main_v28, main_v29, main_v30, main_v31, main_v32, main_v33, main_cst_5, main_v34, main_v35, main_v36, main_cst_6, main_v37, main_v38, main_v39, main_v40, main_v41, main_v42, main_v43, main_cst_7, main_v44, main_v45, main_v46, main_v47]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call2_v0, main_call2_cst, main_call2_c, main_call2_v1_0, main_v48]
theorem hostOps0_4_writes : (hostOps0_4 : List (HloOp τ sig (Elt F))).Forall fun op => op.writes ⊆ (hostOps0_4_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_12 (constantI S_ 32 99#32),
    StableHlo.binary main_v24_1 main_while0c_c_12 main_while0c_v49 (cmpi .slt) ]

/-- @main's stretches before the loop, the loop body's, and @main's after the loop. -/
abbrev preI : List (List (HloOp τ sig (Elt F))) := [hostOps0, hostOps0_1, hostOps0_2]
abbrev bodyI : List (List (HloOp τ sig (Elt F))) := [while0Ops0, while0Ops0_1]
abbrev postI : List (List (HloOp τ sig (Elt F))) := [hostOps0_3, hostOps0_4]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.nil)))
theorem hbodyI : Plain (bodyI (F := F)) := .cons while0Ops0_sub (hf := List.forall_iff_forall_mem.mp while0Ops0_fresh) (.cons while0Ops0_1_sub (hf := List.forall_iff_forall_mem.mp while0Ops0_1_fresh) (.nil))
theorem hpost : Plain (postI (F := F)) := .cons hostOps0_3_sub (hf := List.forall_iff_forall_mem.mp hostOps0_3_fresh) (.cons hostOps0_4_sub (hf := List.forall_iff_forall_mem.mp hostOps0_4_fresh) (.nil))

/-- The reference each operation of `condOps` writes, in order. -/
abbrev condOps_W : List (Ref sig .tc) := [main_while0c_c_12, main_while0c_v49]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v24_1`) is written by one stretch of the body, `while0Ops0_1`: not by the condition, nor by the
    body's other stretches. -/
theorem ctr_cond (V : Valuation τ sig (Elt F)) : after condOps V (Proc.devRef .tc main_v24_1) = V (Proc.devRef .tc main_v24_1) :=
  after_of_writes_sub condOps V condOps_writes (by decide +kernel)
theorem ctr_while0Ops0 (V : Valuation τ sig (Elt F)) : after while0Ops0 V (Proc.devRef .tc main_v24_1) = V (Proc.devRef .tc main_v24_1) :=
  after_of_writes_sub while0Ops0 V while0Ops0_writes (by decide +kernel)

/-- The body's operations 1 … 3 of 51. -/
abbrev trip_w0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v24_0 : StableHlo.TRef sig ⟨S99x1999x8, .f32⟩) ![(.of main_v24_1 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1999x8, .f32⟩) (fun x i => Host.dynamicSlice S1x1999x8 x (fun k => (i k (Shape.Idx.first h_S_)).toInt) sliceFits_S99x1999x8_S1x1999x8) ]

/-- The body's operations 4 … 4 of 51. -/
abbrev trip_w1 : List (HloOp τ sig (Elt F)) :=
  [ StableHlo.TRef.reshape (.of main_while0b_call1_v0 : StableHlo.TRef sig ⟨S1x1999x8, .f32⟩) (.of main_while0b_v49 : StableHlo.TRef sig ⟨S1999x8, .f32⟩) (rfl : (.f32 : EltTy) = .f32) shapeCasts_S1x1999x8_S1999x8 ]

/-- The body's operations 5 … 28 of 51. -/
abbrev trip_w2 : List (HloOp τ sig (Elt F)) :=
  [ StableHlo.unary main_while0b_v49 main_while0b_v50 (broadcastInDim S1999x8x1 ![0, 1] bcast_S1999x8_S1999x8x1_0_1 : (⟨S1999x8, .f32⟩ : BufTy).Contents (Elt F) → (⟨S1999x8x1, .f32⟩ : BufTy).Contents (Elt F)),
    StableHlo.unary main_while0b_v49 main_while0b_v51 (broadcastInDim S1999x1x8 ![0, 2] bcast_S1999x8_S1999x1x8_0_2 : (⟨S1999x8, .f32⟩ : BufTy).Contents (Elt F) → (⟨S1999x1x8, .f32⟩ : BufTy).Contents (Elt F)),
    StableHlo.unary main_while0b_v50 main_while0b_v52 (broadcastInDim S1999x8x8 ![0, 1, 2] bcast_S1999x8x1_S1999x8x8_0_1_2 : (⟨S1999x8x1, .f32⟩ : BufTy).Contents (Elt F) → (⟨S1999x8x8, .f32⟩ : BufTy).Contents (Elt F)),
    StableHlo.unary main_while0b_v51 main_while0b_v53 (broadcastInDim S1999x8x8 ![0, 1, 2] bcast_S1999x1x8_S1999x8x8_0_1_2 : (⟨S1999x1x8, .f32⟩ : BufTy).Contents (Elt F) → (⟨S1999x8x8, .f32⟩ : BufTy).Contents (Elt F)),
    StableHlo.binary main_while0b_v52 main_while0b_v53 main_while0b_v54 (mulf : (⟨S1999x8x8, .f32⟩ : BufTy).Contents (Elt F) → (⟨S1999x8x8, .f32⟩ : BufTy).Contents (Elt F) → (⟨S1999x8x8, .f32⟩ : BufTy).Contents (Elt F)),
    StableHlo.nullary main_while0b_cst_12 (constant S_ .f32 0x40000000#32),
    StableHlo.unary main_while0b_cst_12 main_while0b_v55 (broadcastInDim S1999x8x8 ![] bcast_S_S1999x8x8 : (⟨S_, .f32⟩ : BufTy).Contents (Elt F) → (⟨S1999x8x8, .f32⟩ : BufTy).Contents (Elt F)),
    StableHlo.binary main_while0b_v54 main_while0b_v55 main_while0b_v56 (Host.divf : (⟨S1999x8x8, .f32⟩ : BufTy).Contents (Elt F) → (⟨S1999x8x8, .f32⟩ : BufTy).Contents (Elt F) → (⟨S1999x8x8, .f32⟩ : BufTy).Contents (Elt F)),
    StableHlo.unary main_while0b_v49 main_while0b_v57 (broadcastInDim S1999x8x1x1 ![0, 1] bcast_S1999x8_S1999x8x1x1_0_1 : (⟨S1999x8, .f32⟩ : BufTy).Contents (Elt F) → (⟨S1999x8x1x1, .f32⟩ : BufTy).Contents (Elt F)),
    StableHlo.unary main_while0b_v49 main_while0b_v58 (broadcastInDim S1999x1x8x1 ![0, 2] bcast_S1999x8_S1999x1x8x1_0_2 : (⟨S1999x8, .f32⟩ : BufTy).Contents (Elt F) → (⟨S1999x1x8x1, .f32⟩ : BufTy).Contents (Elt F)),
    StableHlo.unary main_while0b_v57 main_while0b_v59 (broadcastInDim S1999x8x8x1 ![0, 1, 2, 3] bcast_S1999x8x1x1_S1999x8x8x1_0_1_2_3 : (⟨S1999x8x1x1, .f32⟩ : BufTy).Contents (Elt F) → (⟨S1999x8x8x1, .f32⟩ : BufTy).Contents (Elt F)),
    StableHlo.unary main_while0b_v58 main_while0b_v60 (broadcastInDim S1999x8x8x1 ![0, 1, 2, 3] bcast_S1999x1x8x1_S1999x8x8x1_0_1_2_3 : (⟨S1999x1x8x1, .f32⟩ : BufTy).Contents (Elt F) → (⟨S1999x8x8x1, .f32⟩ : BufTy).Contents (Elt F)),
    StableHlo.binary main_while0b_v59 main_while0b_v60 main_while0b_v61 (mulf : (⟨S1999x8x8x1, .f32⟩ : BufTy).Contents (Elt F) → (⟨S1999x8x8x1, .f32⟩ : BufTy).Contents (Elt F) → (⟨S1999x8x8x1, .f32⟩ : BufTy).Contents (Elt F)),
    StableHlo.unary main_while0b_v49 main_while0b_v62 (broadcastInDim S1999x1x1x8 ![0, 3] bcast_S1999x8_S1999x1x1x8_0_3 : (⟨S1999x8, .f32⟩ : BufTy).Contents (Elt F) → (⟨S1999x1x1x8, .f32⟩ : BufTy).Contents (Elt F)),
    StableHlo.unary main_while0b_v61 main_while0b_v63 (broadcastInDim S1999x8x8x8 ![0, 1, 2, 3] bcast_S1999x8x8x1_S1999x8x8x8_0_1_2_3 : (⟨S1999x8x8x1, .f32⟩ : BufTy).Contents (Elt F) → (⟨S1999x8x8x8, .f32⟩ : BufTy).Contents (Elt F)),
    StableHlo.unary main_while0b_v62 main_while0b_v64 (broadcastInDim S1999x8x8x8 ![0, 1, 2, 3] bcast_S1999x1x1x8_S1999x8x8x8_0_1_2_3 : (⟨S1999x1x1x8, .f32⟩ : BufTy).Contents (Elt F) → (⟨S1999x8x8x8, .f32⟩ : BufTy).Contents (Elt F)),
    StableHlo.binary main_while0b_v63 main_while0b_v64 main_while0b_v65 (mulf : (⟨S1999x8x8x8, .f32⟩ : BufTy).Contents (Elt F) → (⟨S1999x8x8x8, .f32⟩ : BufTy).Contents (Elt F) → (⟨S1999x8x8x8, .f32⟩ : BufTy).Contents (Elt F)),
    StableHlo.nullary main_while0b_cst_13 (constant S_ .f32 0x40C00000#32),
    StableHlo.unary main_while0b_cst_13 main_while0b_v66 (broadcastInDim S1999x8x8x8 ![] bcast_S_S1999x8x8x8 : (⟨S_, .f32⟩ : BufTy).Contents (Elt F) → (⟨S1999x8x8x8, .f32⟩ : BufTy).Contents (Elt F)),
    StableHlo.binary main_while0b_v65 main_while0b_v66 main_while0b_v67 (Host.divf : (⟨S1999x8x8x8, .f32⟩ : BufTy).Contents (Elt F) → (⟨S1999x8x8x8, .f32⟩ : BufTy).Contents (Elt F) → (⟨S1999x8x8x8, .f32⟩ : BufTy).Contents (Elt F)),
    StableHlo.binary main_v24_2 main_while0b_v49 main_while0b_v68 (addf : (⟨S1999x8, .f32⟩ : BufTy).Contents (Elt F) → (⟨S1999x8, .f32⟩ : BufTy).Contents (Elt F) → (⟨S1999x8, .f32⟩ : BufTy).Contents (Elt F)),
    StableHlo.binary main_v24_3 main_while0b_v56 main_while0b_v69 (addf : (⟨S1999x8x8, .f32⟩ : BufTy).Contents (Elt F) → (⟨S1999x8x8, .f32⟩ : BufTy).Contents (Elt F) → (⟨S1999x8x8, .f32⟩ : BufTy).Contents (Elt F)),
    StableHlo.unary main_v24_2 main_while0b_v70 (broadcastInDim S1999x8x1 ![0, 1] bcast_S1999x8_S1999x8x1_0_1 : (⟨S1999x8, .f32⟩ : BufTy).Contents (Elt F) → (⟨S1999x8x1, .f32⟩ : BufTy).Contents (Elt F)),
    StableHlo.unary main_while0b_v49 main_while0b_v71 (broadcastInDim S1999x1x8 ![0, 2] bcast_S1999x8_S1999x1x8_0_2 : (⟨S1999x8, .f32⟩ : BufTy).Contents (Elt F) → (⟨S1999x1x8, .f32⟩ : BufTy).Contents (Elt F)) ]

/-- The body's operations 29 … 45 of 51. -/
abbrev trip_w3 : List (HloOp τ sig (Elt F)) :=
  [ StableHlo.unary main_while0b_v70 main_while0b_v72 (broadcastInDim S1999x8x8 ![0, 1, 2] bcast_S1999x8x1_S1999x8x8_0_1_2 : (⟨S1999x8x1, .f32⟩ : BufTy).Contents (Elt F) → (⟨S1999x8x8, .f32⟩ : BufTy).Contents (Elt F)),
    StableHlo.unary main_while0b_v71 main_while0b_v73 (broadcastInDim S1999x8x8 ![0, 1, 2] bcast_S1999x1x8_S1999x8x8_0_1_2 : (⟨S1999x1x8, .f32⟩ : BufTy).Contents (Elt F) → (⟨S1999x8x8, .f32⟩ : BufTy).Contents (Elt F)),
    StableHlo.binary main_while0b_v72 main_while0b_v73 main_while0b_v74 (mulf : (⟨S1999x8x8, .f32⟩ : BufTy).Contents (Elt F) → (⟨S1999x8x8, .f32⟩ : BufTy).Contents (Elt F) → (⟨S1999x8x8, .f32⟩ : BufTy).Contents (Elt F)),
    StableHlo.binary main_while0b_v69 main_while0b_v74 main_while0b_v75 (addf : (⟨S1999x8x8, .f32⟩ : BufTy).Contents (Elt F) → (⟨S1999x8x8, .f32⟩ : BufTy).Contents (Elt F) → (⟨S1999x8x8, .f32⟩ : BufTy).Contents (Elt F)),
    StableHlo.binary main_v24_4 main_while0b_v67 main_while0b_v76 (addf : (⟨S1999x8x8x8, .f32⟩ : BufTy).Contents (Elt F) → (⟨S1999x8x8x8, .f32⟩ : BufTy).Contents (Elt F) → (⟨S1999x8x8x8, .f32⟩ : BufTy).Contents (Elt F)),
    StableHlo.unary main_v24_2 main_while0b_v77 (broadcastInDim S1999x8x1x1 ![0, 1] bcast_S1999x8_S1999x8x1x1_0_1 : (⟨S1999x8, .f32⟩ : BufTy).Contents (Elt F) → (⟨S1999x8x1x1, .f32⟩ : BufTy).Contents (Elt F)),
    StableHlo.unary main_while0b_v56 main_while0b_v78 (broadcastInDim S1999x1x8x8 ![0, 2, 3] bcast_S1999x8x8_S1999x1x8x8_0_2_3 : (⟨S1999x8x8, .f32⟩ : BufTy).Contents (Elt F) → (⟨S1999x1x8x8, .f32⟩ : BufTy).Contents (Elt F)),
    StableHlo.unary main_while0b_v77 main_while0b_v79 (broadcastInDim S1999x8x8x8 ![0, 1, 2, 3] bcast_S1999x8x1x1_S1999x8x8x8_0_1_2_3 : (⟨S1999x8x1x1, .f32⟩ : BufTy).Contents (Elt F) → (⟨S1999x8x8x8, .f32⟩ : BufTy).Contents (Elt F)),
    StableHlo.unary main_while0b_v78 main_while0b_v80 (broadcastInDim S1999x8x8x8 ![0, 1, 2, 3] bcast_S1999x1x8x8_S1999x8x8x8_0_1_2_3 : (⟨S1999x1x8x8, .f32⟩ : BufTy).Contents (Elt F) → (⟨S1999x8x8x8, .f32⟩ : BufTy).Contents (Elt F)),
    StableHlo.binary main_while0b_v79 main_while0b_v80 main_while0b_v81 (mulf : (⟨S1999x8x8x8, .f32⟩ : BufTy).Contents (Elt F) → (⟨S1999x8x8x8, .f32⟩ : BufTy).Contents (Elt F) → (⟨S1999x8x8x8, .f32⟩ : BufTy).Contents (Elt F)),
    StableHlo.binary main_while0b_v76 main_while0b_v81 main_while0b_v82 (addf : (⟨S1999x8x8x8, .f32⟩ : BufTy).Contents (Elt F) → (⟨S1999x8x8x8, .f32⟩ : BufTy).Contents (Elt F) → (⟨S1999x8x8x8, .f32⟩ : BufTy).Contents (Elt F)),
    StableHlo.unary main_v24_3 main_while0b_v83 (broadcastInDim S1999x8x8x1 ![0, 1, 2] bcast_S1999x8x8_S1999x8x8x1_0_1_2 : (⟨S1999x8x8, .f32⟩ : BufTy).Contents (Elt F) → (⟨S1999x8x8x1, .f32⟩ : BufTy).Contents (Elt F)),
    StableHlo.unary main_while0b_v49 main_while0b_v84 (broadcastInDim S1999x1x1x8 ![0, 3] bcast_S1999x8_S1999x1x1x8_0_3 : (⟨S1999x8, .f32⟩ : BufTy).Contents (Elt F) → (⟨S1999x1x1x8, .f32⟩ : BufTy).Contents (Elt F)),
    StableHlo.unary main_while0b_v83 main_while0b_v85 (broadcastInDim S1999x8x8x8 ![0, 1, 2, 3] bcast_S1999x8x8x1_S1999x8x8x8_0_1_2_3 : (⟨S1999x8x8x1, .f32⟩ : BufTy).Contents (Elt F) → (⟨S1999x8x8x8, .f32⟩ : BufTy).Contents (Elt F)),
    StableHlo.unary main_while0b_v84 main_while0b_v86 (broadcastInDim S1999x8x8x8 ![0, 1, 2, 3] bcast_S1999x1x1x8_S1999x8x8x8_0_1_2_3 : (⟨S1999x1x1x8, .f32⟩ : BufTy).Contents (Elt F) → (⟨S1999x8x8x8, .f32⟩ : BufTy).Contents (Elt F)),
    StableHlo.binary main_while0b_v85 main_while0b_v86 main_while0b_v87 (mulf : (⟨S1999x8x8x8, .f32⟩ : BufTy).Contents (Elt F) → (⟨S1999x8x8x8, .f32⟩ : BufTy).Contents (Elt F) → (⟨S1999x8x8x8, .f32⟩ : BufTy).Contents (Elt F)),
    StableHlo.binary main_while0b_v82 main_while0b_v87 main_while0b_v88 (addf : (⟨S1999x8x8x8, .f32⟩ : BufTy).Contents (Elt F) → (⟨S1999x8x8x8, .f32⟩ : BufTy).Contents (Elt F) → (⟨S1999x8x8x8, .f32⟩ : BufTy).Contents (Elt F)) ]

/-- The body's operations 46 … 51 of 51: the counter's step and the copies back into the carried buffers. -/
abbrev while0Ops0_1_step : List (HloOp τ sig (Elt F)) :=
  [ StableHlo.nullary main_while0b_c_14 (constantI S_ 32 1#32),
    StableHlo.binary main_v24_1 main_while0b_c_14 main_while0b_v89 (addi : (⟨S_, .i32⟩ : BufTy).Contents (Elt F) → (⟨S_, .i32⟩ : BufTy).Contents (Elt F) → (⟨S_, .i32⟩ : BufTy).Contents (Elt F)),
    StableHlo.unary main_while0b_v89 main_v24_1 id,
    StableHlo.unary main_while0b_v68 main_v24_2 id,
    StableHlo.unary main_while0b_v75 main_v24_3 id,
    StableHlo.unary main_while0b_v88 main_v24_4 id ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order, then the step. -/
theorem while0Ops0_1_cut : (while0Ops0_1 : List (HloOp τ sig (Elt F))) = trip_w2 ++ (trip_w3 ++ (while0Ops0_1_step)) := rfl

/-- The buffers that window `trip_w0`'s operations write. -/
abbrev trip_w0_W : List (Ref sig .tc) := [main_while0b_call1_c, main_while0b_call1_c_0, main_while0b_call1_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_v49]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w2`'s operations write. -/
abbrev trip_w2_W : List (Ref sig .tc) := [main_while0b_v50, main_while0b_v51, main_while0b_v52, main_while0b_v53, main_while0b_v54, main_while0b_cst_12, main_while0b_v55, main_while0b_v56, main_while0b_v57, main_while0b_v58, main_while0b_v59, main_while0b_v60, main_while0b_v61, main_while0b_v62, main_while0b_v63, main_while0b_v64, main_while0b_v65, main_while0b_cst_13, main_while0b_v66, main_while0b_v67, main_while0b_v68, main_while0b_v69, main_while0b_v70, main_while0b_v71]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w2 (V : Valuation τ sig (Elt F)) : after trip_w2 V (Proc.devRef .tc main_v24_1) = V (Proc.devRef .tc main_v24_1) :=
  after_of_writes_sub trip_w2 V trip_w2_writes (by decide +kernel)
theorem ctr_trip_w3 (V : Valuation τ sig (Elt F)) : after trip_w3 V (Proc.devRef .tc main_v24_1) = V (Proc.devRef .tc main_v24_1) :=
  after_of_writes_sub trip_w3 V trip_w3_writes (by decide +kernel)

set_option maxRecDepth 100000 in
/-- `while0Ops0_1_step` leaves the counter one step on. -/
theorem ctr_while0Ops0_1_step (Y : Valuation τ sig (Elt F)) :
    after while0Ops0_1_step Y (Proc.devRef .tc main_v24_1) = addi (Y (Proc.devRef .tc main_v24_1)) (constantI S_ 32 1#32) := by
  after_results
  rfl

set_option maxRecDepth 100000 in
/-- `while0Ops0_1` leaves the counter one step on: its windows do not write the counter, and `while0Ops0_1_step` steps it. -/
theorem ctr_step (X : Valuation τ sig (Elt F)) :
    after while0Ops0_1 X (Proc.devRef .tc main_v24_1) = addi (X (Proc.devRef .tc main_v24_1)) (constantI S_ 32 1#32) := by
  simp only [while0Ops0_1_cut, after_append]
  rw [ctr_while0Ops0_1_step, ctr_trip_w3, ctr_trip_w2]

/-- The counter is the loop's lower bound at the loop's entry: its last writer before the loop read back. -/
theorem ctr_entry (c : Dev nD) : entryContents preI m c (Proc.devRef .tc main_v24_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v24_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 99 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v24_1 HostLoop.idx0)
        (HloOp.result _ (atK m k c) main_while0c_c_12 HostLoop.idx0) = 1#1) (k < 99)
    rw [nullary_result_ne _ _ _ _ (by decide), nullary_result, hctr]
    exact Scf.cmpi_slt_iv_ub_iff (lb := 0#32) (ub := 99#32) (st := 1#32) (by decide) (show k ≤ Scf.trips 0#32 99#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 99 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 99 m ρ (cond_spec m)

/-! ## One trip's values -/

set_option maxRecDepth 8192 in
/-- `main_while0b_v49`'s composed term of the carried buffers (named: it is used 8 times). -/
def res_main_while0b_v49 (V0 : Valuation τ sig (Elt F)) : (Proc.devRef .tc main_while0b_v49 : DevRef τ sig).ty.Contents (Elt F) :=
  shapeCast S1999x8 (Host.dynamicSlice S1x1999x8 (V0 (Proc.devRef .tc main_v24_0)) (fun k => (((![V0 (Proc.devRef .tc main_v24_1), constantI S_ 32 0#32, constantI S_ 32 0#32] : Fin 3 → (⟨S_, .i32⟩ : BufTy).Contents (Elt F))) k (Shape.Idx.first h_S_)).toInt) sliceFits_S99x1999x8_S1x1999x8) shapeCasts_S1x1999x8_S1999x8

set_option maxRecDepth 8192 in
/-- `main_while0b_v56`'s composed term of the carried buffers (named: it is used 2 times). -/
def res_main_while0b_v56 (V0 : Valuation τ sig (Elt F)) : (Proc.devRef .tc main_while0b_v56 : DevRef τ sig).ty.Contents (Elt F) :=
  Host.divf (mulf (broadcastInDim S1999x8x8 ![0, 1, 2] bcast_S1999x8x1_S1999x8x8_0_1_2 (broadcastInDim S1999x8x1 ![0, 1] bcast_S1999x8_S1999x8x1_0_1 (res_main_while0b_v49 V0))) (broadcastInDim S1999x8x8 ![0, 1, 2] bcast_S1999x1x8_S1999x8x8_0_1_2 (broadcastInDim S1999x1x8 ![0, 2] bcast_S1999x8_S1999x1x8_0_2 (res_main_while0b_v49 V0)))) (broadcastInDim S1999x8x8 ![] bcast_S_S1999x8x8 (constant S_ .f32 0x40000000#32))

/-- The device's buffer contents before the body's first window. -/
def val0 (V0 : Valuation τ sig (Elt F)) : Valuation τ sig (Elt F) := V0
theorem val0_main_v24_0 (V0 : Valuation τ sig (Elt F)) : val0 V0 (no_index (Proc.devRef .tc main_v24_0)) = V0 (Proc.devRef .tc main_v24_0) := rfl
theorem val0_main_v24_1 (V0 : Valuation τ sig (Elt F)) : val0 V0 (no_index (Proc.devRef .tc main_v24_1)) = V0 (Proc.devRef .tc main_v24_1) := rfl
theorem val0_main_v24_2 (V0 : Valuation τ sig (Elt F)) : val0 V0 (no_index (Proc.devRef .tc main_v24_2)) = V0 (Proc.devRef .tc main_v24_2) := rfl
theorem val0_main_v24_3 (V0 : Valuation τ sig (Elt F)) : val0 V0 (no_index (Proc.devRef .tc main_v24_3)) = V0 (Proc.devRef .tc main_v24_3) := rfl
theorem val0_main_v24_4 (V0 : Valuation τ sig (Elt F)) : val0 V0 (no_index (Proc.devRef .tc main_v24_4)) = V0 (Proc.devRef .tc main_v24_4) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v24_0 (V0 : Valuation τ sig (Elt F)) : val1 V0 (no_index (Proc.devRef .tc main_v24_0)) = V0 (Proc.devRef .tc main_v24_0) :=
  (val1_keep V0 main_v24_0 (by decide)).trans (val0_main_v24_0 V0)
theorem val1_main_v24_1 (V0 : Valuation τ sig (Elt F)) : val1 V0 (no_index (Proc.devRef .tc main_v24_1)) = V0 (Proc.devRef .tc main_v24_1) :=
  (val1_keep V0 main_v24_1 (by decide)).trans (val0_main_v24_1 V0)
theorem val1_main_v24_2 (V0 : Valuation τ sig (Elt F)) : val1 V0 (no_index (Proc.devRef .tc main_v24_2)) = V0 (Proc.devRef .tc main_v24_2) :=
  (val1_keep V0 main_v24_2 (by decide)).trans (val0_main_v24_2 V0)
theorem val1_main_v24_3 (V0 : Valuation τ sig (Elt F)) : val1 V0 (no_index (Proc.devRef .tc main_v24_3)) = V0 (Proc.devRef .tc main_v24_3) :=
  (val1_keep V0 main_v24_3 (by decide)).trans (val0_main_v24_3 V0)
theorem val1_main_v24_4 (V0 : Valuation τ sig (Elt F)) : val1 V0 (no_index (Proc.devRef .tc main_v24_4)) = V0 (Proc.devRef .tc main_v24_4) :=
  (val1_keep V0 main_v24_4 (by decide)).trans (val0_main_v24_4 V0)
set_option maxRecDepth 8192 in
theorem val1_main_while0b_call1_v0 (V0 : Valuation τ sig (Elt F)) : val1 V0 (no_index (Proc.devRef .tc main_while0b_call1_v0)) = Host.dynamicSlice S1x1999x8 (V0 (Proc.devRef .tc main_v24_0)) (fun k => (((![V0 (Proc.devRef .tc main_v24_1), constantI S_ 32 0#32, constantI S_ 32 0#32] : Fin 3 → (⟨S_, .i32⟩ : BufTy).Contents (Elt F))) k (Shape.Idx.first h_S_)).toInt) sliceFits_S99x1999x8_S1x1999x8 := by
  unfold val1
  simp only [trip_w0]
  after_results_entrywise [val0_main_v24_1, val0_main_v24_0, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v24_0 (V0 : Valuation τ sig (Elt F)) : val2 V0 (no_index (Proc.devRef .tc main_v24_0)) = V0 (Proc.devRef .tc main_v24_0) :=
  (val2_keep V0 main_v24_0 (by decide)).trans (val1_main_v24_0 V0)
theorem val2_main_v24_1 (V0 : Valuation τ sig (Elt F)) : val2 V0 (no_index (Proc.devRef .tc main_v24_1)) = V0 (Proc.devRef .tc main_v24_1) :=
  (val2_keep V0 main_v24_1 (by decide)).trans (val1_main_v24_1 V0)
theorem val2_main_v24_2 (V0 : Valuation τ sig (Elt F)) : val2 V0 (no_index (Proc.devRef .tc main_v24_2)) = V0 (Proc.devRef .tc main_v24_2) :=
  (val2_keep V0 main_v24_2 (by decide)).trans (val1_main_v24_2 V0)
theorem val2_main_v24_3 (V0 : Valuation τ sig (Elt F)) : val2 V0 (no_index (Proc.devRef .tc main_v24_3)) = V0 (Proc.devRef .tc main_v24_3) :=
  (val2_keep V0 main_v24_3 (by decide)).trans (val1_main_v24_3 V0)
theorem val2_main_v24_4 (V0 : Valuation τ sig (Elt F)) : val2 V0 (no_index (Proc.devRef .tc main_v24_4)) = V0 (Proc.devRef .tc main_v24_4) :=
  (val2_keep V0 main_v24_4 (by decide)).trans (val1_main_v24_4 V0)
set_option maxRecDepth 8192 in
theorem val2_main_while0b_v49 (V0 : Valuation τ sig (Elt F)) : val2 V0 (no_index (Proc.devRef .tc main_while0b_v49)) = res_main_while0b_v49 V0 := by
  unfold val2
  simp only [trip_w1]
  after_results_entrywise [val1_main_while0b_call1_v0, res_main_while0b_v49, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v24_0 (V0 : Valuation τ sig (Elt F)) : val3 V0 (no_index (Proc.devRef .tc main_v24_0)) = V0 (Proc.devRef .tc main_v24_0) :=
  (val3_keep V0 main_v24_0 (by decide)).trans (val2_main_v24_0 V0)
theorem val3_main_v24_1 (V0 : Valuation τ sig (Elt F)) : val3 V0 (no_index (Proc.devRef .tc main_v24_1)) = V0 (Proc.devRef .tc main_v24_1) :=
  (val3_keep V0 main_v24_1 (by decide)).trans (val2_main_v24_1 V0)
theorem val3_main_v24_2 (V0 : Valuation τ sig (Elt F)) : val3 V0 (no_index (Proc.devRef .tc main_v24_2)) = V0 (Proc.devRef .tc main_v24_2) :=
  (val3_keep V0 main_v24_2 (by decide)).trans (val2_main_v24_2 V0)
theorem val3_main_v24_3 (V0 : Valuation τ sig (Elt F)) : val3 V0 (no_index (Proc.devRef .tc main_v24_3)) = V0 (Proc.devRef .tc main_v24_3) :=
  (val3_keep V0 main_v24_3 (by decide)).trans (val2_main_v24_3 V0)
theorem val3_main_v24_4 (V0 : Valuation τ sig (Elt F)) : val3 V0 (no_index (Proc.devRef .tc main_v24_4)) = V0 (Proc.devRef .tc main_v24_4) :=
  (val3_keep V0 main_v24_4 (by decide)).trans (val2_main_v24_4 V0)
theorem val3_main_while0b_v49 (V0 : Valuation τ sig (Elt F)) : val3 V0 (no_index (Proc.devRef .tc main_while0b_v49)) = res_main_while0b_v49 V0 :=
  (val3_keep V0 main_while0b_v49 (by decide)).trans (val2_main_while0b_v49 V0)
set_option maxRecDepth 8192 in
set_option maxHeartbeats 2000000 in
theorem val3_main_while0b_v56 (V0 : Valuation τ sig (Elt F)) : val3 V0 (no_index (Proc.devRef .tc main_while0b_v56)) = res_main_while0b_v56 V0 := by
  unfold val3
  simp only [trip_w2]
  after_results_entrywise [val2_main_while0b_v49, res_main_while0b_v56, cast_eq]
set_option maxRecDepth 8192 in
set_option maxHeartbeats 2000000 in
theorem val3_main_while0b_v67 (V0 : Valuation τ sig (Elt F)) : val3 V0 (no_index (Proc.devRef .tc main_while0b_v67)) = Host.divf (mulf (broadcastInDim S1999x8x8x8 ![0, 1, 2, 3] bcast_S1999x8x8x1_S1999x8x8x8_0_1_2_3 (mulf (broadcastInDim S1999x8x8x1 ![0, 1, 2, 3] bcast_S1999x8x1x1_S1999x8x8x1_0_1_2_3 (broadcastInDim S1999x8x1x1 ![0, 1] bcast_S1999x8_S1999x8x1x1_0_1 (res_main_while0b_v49 V0))) (broadcastInDim S1999x8x8x1 ![0, 1, 2, 3] bcast_S1999x1x8x1_S1999x8x8x1_0_1_2_3 (broadcastInDim S1999x1x8x1 ![0, 2] bcast_S1999x8_S1999x1x8x1_0_2 (res_main_while0b_v49 V0))))) (broadcastInDim S1999x8x8x8 ![0, 1, 2, 3] bcast_S1999x1x1x8_S1999x8x8x8_0_1_2_3 (broadcastInDim S1999x1x1x8 ![0, 3] bcast_S1999x8_S1999x1x1x8_0_3 (res_main_while0b_v49 V0)))) (broadcastInDim S1999x8x8x8 ![] bcast_S_S1999x8x8x8 (constant S_ .f32 0x40C00000#32)) := by
  unfold val3
  simp only [trip_w2]
  after_results_entrywise [val2_main_while0b_v49, cast_eq]
set_option maxRecDepth 8192 in
set_option maxHeartbeats 2000000 in
theorem val3_main_while0b_v68 (V0 : Valuation τ sig (Elt F)) : val3 V0 (no_index (Proc.devRef .tc main_while0b_v68)) = addf (V0 (Proc.devRef .tc main_v24_2)) (res_main_while0b_v49 V0) := by
  unfold val3
  simp only [trip_w2]
  after_results_entrywise [val2_main_while0b_v49, val2_main_v24_2, cast_eq]
set_option maxRecDepth 8192 in
set_option maxHeartbeats 2000000 in
theorem val3_main_while0b_v69 (V0 : Valuation τ sig (Elt F)) : val3 V0 (no_index (Proc.devRef .tc main_while0b_v69)) = addf (V0 (Proc.devRef .tc main_v24_3)) (res_main_while0b_v56 V0) := by
  unfold val3
  simp only [trip_w2]
  after_results_entrywise [val2_main_while0b_v49, val2_main_v24_3, res_main_while0b_v56, cast_eq]
set_option maxRecDepth 8192 in
set_option maxHeartbeats 2000000 in
theorem val3_main_while0b_v70 (V0 : Valuation τ sig (Elt F)) : val3 V0 (no_index (Proc.devRef .tc main_while0b_v70)) = broadcastInDim S1999x8x1 ![0, 1] bcast_S1999x8_S1999x8x1_0_1 (V0 (Proc.devRef .tc main_v24_2)) := by
  unfold val3
  simp only [trip_w2]
  after_results_entrywise [val2_main_v24_2, cast_eq]
set_option maxRecDepth 8192 in
set_option maxHeartbeats 2000000 in
theorem val3_main_while0b_v71 (V0 : Valuation τ sig (Elt F)) : val3 V0 (no_index (Proc.devRef .tc main_while0b_v71)) = broadcastInDim S1999x1x8 ![0, 2] bcast_S1999x8_S1999x1x8_0_2 (res_main_while0b_v49 V0) := by
  unfold val3
  simp only [trip_w2]
  after_results_entrywise [val2_main_while0b_v49, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v24_0 (V0 : Valuation τ sig (Elt F)) : val4 V0 (no_index (Proc.devRef .tc main_v24_0)) = V0 (Proc.devRef .tc main_v24_0) :=
  (val4_keep V0 main_v24_0 (by decide)).trans (val3_main_v24_0 V0)
theorem val4_main_v24_1 (V0 : Valuation τ sig (Elt F)) : val4 V0 (no_index (Proc.devRef .tc main_v24_1)) = V0 (Proc.devRef .tc main_v24_1) :=
  (val4_keep V0 main_v24_1 (by decide)).trans (val3_main_v24_1 V0)
theorem val4_main_v24_2 (V0 : Valuation τ sig (Elt F)) : val4 V0 (no_index (Proc.devRef .tc main_v24_2)) = V0 (Proc.devRef .tc main_v24_2) :=
  (val4_keep V0 main_v24_2 (by decide)).trans (val3_main_v24_2 V0)
theorem val4_main_v24_3 (V0 : Valuation τ sig (Elt F)) : val4 V0 (no_index (Proc.devRef .tc main_v24_3)) = V0 (Proc.devRef .tc main_v24_3) :=
  (val4_keep V0 main_v24_3 (by decide)).trans (val3_main_v24_3 V0)
theorem val4_main_v24_4 (V0 : Valuation τ sig (Elt F)) : val4 V0 (no_index (Proc.devRef .tc main_v24_4)) = V0 (Proc.devRef .tc main_v24_4) :=
  (val4_keep V0 main_v24_4 (by decide)).trans (val3_main_v24_4 V0)
theorem val4_main_while0b_v68 (V0 : Valuation τ sig (Elt F)) : val4 V0 (no_index (Proc.devRef .tc main_while0b_v68)) = addf (V0 (Proc.devRef .tc main_v24_2)) (res_main_while0b_v49 V0) :=
  (val4_keep V0 main_while0b_v68 (by decide)).trans (val3_main_while0b_v68 V0)
set_option maxRecDepth 8192 in
set_option maxHeartbeats 1700000 in
theorem val4_main_while0b_v75 (V0 : Valuation τ sig (Elt F)) : val4 V0 (no_index (Proc.devRef .tc main_while0b_v75)) = addf (addf (V0 (Proc.devRef .tc main_v24_3)) (res_main_while0b_v56 V0)) (mulf (broadcastInDim S1999x8x8 ![0, 1, 2] bcast_S1999x8x1_S1999x8x8_0_1_2 (broadcastInDim S1999x8x1 ![0, 1] bcast_S1999x8_S1999x8x1_0_1 (V0 (Proc.devRef .tc main_v24_2)))) (broadcastInDim S1999x8x8 ![0, 1, 2] bcast_S1999x1x8_S1999x8x8_0_1_2 (broadcastInDim S1999x1x8 ![0, 2] bcast_S1999x8_S1999x1x8_0_2 (res_main_while0b_v49 V0)))) := by
  unfold val4
  simp only [trip_w3]
  after_results_entrywise [val3_main_while0b_v71, val3_main_while0b_v70, val3_main_while0b_v69, cast_eq]
set_option maxRecDepth 8192 in
set_option maxHeartbeats 1700000 in
theorem val4_main_while0b_v88 (V0 : Valuation τ sig (Elt F)) : val4 V0 (no_index (Proc.devRef .tc main_while0b_v88)) = addf (addf (addf (V0 (Proc.devRef .tc main_v24_4)) (Host.divf (mulf (broadcastInDim S1999x8x8x8 ![0, 1, 2, 3] bcast_S1999x8x8x1_S1999x8x8x8_0_1_2_3 (mulf (broadcastInDim S1999x8x8x1 ![0, 1, 2, 3] bcast_S1999x8x1x1_S1999x8x8x1_0_1_2_3 (broadcastInDim S1999x8x1x1 ![0, 1] bcast_S1999x8_S1999x8x1x1_0_1 (res_main_while0b_v49 V0))) (broadcastInDim S1999x8x8x1 ![0, 1, 2, 3] bcast_S1999x1x8x1_S1999x8x8x1_0_1_2_3 (broadcastInDim S1999x1x8x1 ![0, 2] bcast_S1999x8_S1999x1x8x1_0_2 (res_main_while0b_v49 V0))))) (broadcastInDim S1999x8x8x8 ![0, 1, 2, 3] bcast_S1999x1x1x8_S1999x8x8x8_0_1_2_3 (broadcastInDim S1999x1x1x8 ![0, 3] bcast_S1999x8_S1999x1x1x8_0_3 (res_main_while0b_v49 V0)))) (broadcastInDim S1999x8x8x8 ![] bcast_S_S1999x8x8x8 (constant S_ .f32 0x40C00000#32)))) (mulf (broadcastInDim S1999x8x8x8 ![0, 1, 2, 3] bcast_S1999x8x1x1_S1999x8x8x8_0_1_2_3 (broadcastInDim S1999x8x1x1 ![0, 1] bcast_S1999x8_S1999x8x1x1_0_1 (V0 (Proc.devRef .tc main_v24_2)))) (broadcastInDim S1999x8x8x8 ![0, 1, 2, 3] bcast_S1999x1x8x8_S1999x8x8x8_0_1_2_3 (broadcastInDim S1999x1x8x8 ![0, 2, 3] bcast_S1999x8x8_S1999x1x8x8_0_2_3 (res_main_while0b_v56 V0))))) (mulf (broadcastInDim S1999x8x8x8 ![0, 1, 2, 3] bcast_S1999x8x8x1_S1999x8x8x8_0_1_2_3 (broadcastInDim S1999x8x8x1 ![0, 1, 2] bcast_S1999x8x8_S1999x8x8x1_0_1_2 (V0 (Proc.devRef .tc main_v24_3)))) (broadcastInDim S1999x8x8x8 ![0, 1, 2, 3] bcast_S1999x1x1x8_S1999x8x8x8_0_1_2_3 (broadcastInDim S1999x1x1x8 ![0, 3] bcast_S1999x8_S1999x1x1x8_0_3 (res_main_while0b_v49 V0)))) := by
  unfold val4
  simp only [trip_w3]
  after_results_entrywise [val3_main_while0b_v49, val3_main_v24_3, val3_main_while0b_v56, val3_main_v24_2, val3_main_while0b_v67, val3_main_v24_4, cast_eq]

set_option maxRecDepth 8192 in
/-- The body's stretches, from any contents: the trip's windows in order, then `while0Ops0_1`'s step. -/
theorem trip_windows (V0 : Valuation τ sig (Elt F)) : after while0Ops0_1 (after while0Ops0 (V0)) = after while0Ops0_1_step (val4 V0) := by
  simp only [while0Ops0_cut, while0Ops0_1_cut, after_append]
  rfl

set_option maxRecDepth 8192 in
set_option maxHeartbeats 2000000 in
/-- `main_v24_0` after one trip's body, from any contents. -/
theorem trip_main_v24_0 (V0 : Valuation τ sig (Elt F)) : afterL bodyI V0 (no_index (Proc.devRef .tc main_v24_0)) = V0 (Proc.devRef .tc main_v24_0) := by
  simp only [bodyI, afterL_cons, afterL_nil, trip_windows]
  after_results
  all_goals (try simp only [val4_main_while0b_v68, val4_main_while0b_v75, val4_main_while0b_v88, val4_main_v24_0, val4_main_v24_1, val4_main_v24_2, val4_main_v24_3, val4_main_v24_4]) <;> rfl
set_option maxRecDepth 8192 in
set_option maxHeartbeats 2000000 in
/-- `main_v24_1` after one trip's body, from any contents. -/
theorem trip_main_v24_1 (V0 : Valuation τ sig (Elt F)) : afterL bodyI V0 (no_index (Proc.devRef .tc main_v24_1)) = id (addi (V0 (Proc.devRef .tc main_v24_1)) (constantI S_ 32 1#32)) := by
  simp only [bodyI, afterL_cons, afterL_nil, trip_windows]
  after_results
  all_goals (try simp only [val4_main_while0b_v68, val4_main_while0b_v75, val4_main_while0b_v88, val4_main_v24_0, val4_main_v24_1, val4_main_v24_2, val4_main_v24_3, val4_main_v24_4]) <;> rfl
set_option maxRecDepth 8192 in
set_option maxHeartbeats 2000000 in
/-- `main_v24_2` after one trip's body, from any contents. -/
theorem trip_main_v24_2 (V0 : Valuation τ sig (Elt F)) : afterL bodyI V0 (no_index (Proc.devRef .tc main_v24_2)) = id (addf (V0 (Proc.devRef .tc main_v24_2)) (res_main_while0b_v49 V0)) := by
  simp only [bodyI, afterL_cons, afterL_nil, trip_windows]
  after_results
  all_goals (try simp only [val4_main_while0b_v68, val4_main_while0b_v75, val4_main_while0b_v88, val4_main_v24_0, val4_main_v24_1, val4_main_v24_2, val4_main_v24_3, val4_main_v24_4]) <;> rfl
set_option maxRecDepth 8192 in
set_option maxHeartbeats 2000000 in
/-- `main_v24_3` after one trip's body, from any contents. -/
theorem trip_main_v24_3 (V0 : Valuation τ sig (Elt F)) : afterL bodyI V0 (no_index (Proc.devRef .tc main_v24_3)) = id (addf (addf (V0 (Proc.devRef .tc main_v24_3)) (res_main_while0b_v56 V0)) (mulf (broadcastInDim S1999x8x8 ![0, 1, 2] bcast_S1999x8x1_S1999x8x8_0_1_2 (broadcastInDim S1999x8x1 ![0, 1] bcast_S1999x8_S1999x8x1_0_1 (V0 (Proc.devRef .tc main_v24_2)))) (broadcastInDim S1999x8x8 ![0, 1, 2] bcast_S1999x1x8_S1999x8x8_0_1_2 (broadcastInDim S1999x1x8 ![0, 2] bcast_S1999x8_S1999x1x8_0_2 (res_main_while0b_v49 V0))))) := by
  simp only [bodyI, afterL_cons, afterL_nil, trip_windows]
  after_results
  all_goals (try simp only [val4_main_while0b_v68, val4_main_while0b_v75, val4_main_while0b_v88, val4_main_v24_0, val4_main_v24_1, val4_main_v24_2, val4_main_v24_3, val4_main_v24_4]) <;> rfl
set_option maxRecDepth 8192 in
set_option maxHeartbeats 2000000 in
/-- `main_v24_4` after one trip's body, from any contents. -/
theorem trip_main_v24_4 (V0 : Valuation τ sig (Elt F)) : afterL bodyI V0 (no_index (Proc.devRef .tc main_v24_4)) = id (addf (addf (addf (V0 (Proc.devRef .tc main_v24_4)) (Host.divf (mulf (broadcastInDim S1999x8x8x8 ![0, 1, 2, 3] bcast_S1999x8x8x1_S1999x8x8x8_0_1_2_3 (mulf (broadcastInDim S1999x8x8x1 ![0, 1, 2, 3] bcast_S1999x8x1x1_S1999x8x8x1_0_1_2_3 (broadcastInDim S1999x8x1x1 ![0, 1] bcast_S1999x8_S1999x8x1x1_0_1 (res_main_while0b_v49 V0))) (broadcastInDim S1999x8x8x1 ![0, 1, 2, 3] bcast_S1999x1x8x1_S1999x8x8x1_0_1_2_3 (broadcastInDim S1999x1x8x1 ![0, 2] bcast_S1999x8_S1999x1x8x1_0_2 (res_main_while0b_v49 V0))))) (broadcastInDim S1999x8x8x8 ![0, 1, 2, 3] bcast_S1999x1x1x8_S1999x8x8x8_0_1_2_3 (broadcastInDim S1999x1x1x8 ![0, 3] bcast_S1999x8_S1999x1x1x8_0_3 (res_main_while0b_v49 V0)))) (broadcastInDim S1999x8x8x8 ![] bcast_S_S1999x8x8x8 (constant S_ .f32 0x40C00000#32)))) (mulf (broadcastInDim S1999x8x8x8 ![0, 1, 2, 3] bcast_S1999x8x1x1_S1999x8x8x8_0_1_2_3 (broadcastInDim S1999x8x1x1 ![0, 1] bcast_S1999x8_S1999x8x1x1_0_1 (V0 (Proc.devRef .tc main_v24_2)))) (broadcastInDim S1999x8x8x8 ![0, 1, 2, 3] bcast_S1999x1x8x8_S1999x8x8x8_0_1_2_3 (broadcastInDim S1999x1x8x8 ![0, 2, 3] bcast_S1999x8x8_S1999x1x8x8_0_2_3 (res_main_while0b_v56 V0))))) (mulf (broadcastInDim S1999x8x8x8 ![0, 1, 2, 3] bcast_S1999x8x8x1_S1999x8x8x8_0_1_2_3 (broadcastInDim S1999x8x8x1 ![0, 1, 2] bcast_S1999x8x8_S1999x8x8x1_0_1_2 (V0 (Proc.devRef .tc main_v24_3)))) (broadcastInDim S1999x8x8x8 ![0, 1, 2, 3] bcast_S1999x1x1x8_S1999x8x8x8_0_1_2_3 (broadcastInDim S1999x1x1x8 ![0, 3] bcast_S1999x8_S1999x1x1x8_0_3 (res_main_while0b_v49 V0))))) := by
  simp only [bodyI, afterL_cons, afterL_nil, trip_windows]
  after_results
  all_goals (try simp only [val4_main_while0b_v68, val4_main_while0b_v75, val4_main_while0b_v88, val4_main_v24_0, val4_main_v24_1, val4_main_v24_2, val4_main_v24_3, val4_main_v24_4]) <;> rfl

/-- The loop's carried buffers. -/
abbrev carriedRefs : List (Ref sig .tc) := [main_v24_0, main_v24_1, main_v24_2, main_v24_3, main_v24_4]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v49_congr {V0 V0' : Valuation τ sig (Elt F)} (h : Agree V0 V0') : res_main_while0b_v49 V0 = res_main_while0b_v49 V0' := by
  unfold res_main_while0b_v49
  rw [h main_v24_0 (by decide), h main_v24_1 (by decide)]
set_option maxRecDepth 8192 in
theorem res_main_while0b_v56_congr {V0 V0' : Valuation τ sig (Elt F)} (h : Agree V0 V0') : res_main_while0b_v56 V0 = res_main_while0b_v56 V0' := by
  unfold res_main_while0b_v56
  rw [res_main_while0b_v49_congr h]

set_option maxRecDepth 8192 in
/-- `main_v24_1` after one trip, of the contents before it. -/
def step_main_v24_1 (V0 : Valuation τ sig (Elt F)) : (Proc.devRef .tc main_v24_1 : DevRef τ sig).ty.Contents (Elt F) :=
  id (addi (V0 (Proc.devRef .tc main_v24_1)) (constantI S_ 32 1#32))
set_option maxRecDepth 8192 in
theorem step_main_v24_1_congr {V0 V0' : Valuation τ sig (Elt F)} (h : Agree V0 V0') : step_main_v24_1 V0 = step_main_v24_1 V0' := by
  unfold step_main_v24_1
  rw [h main_v24_1 (by decide)]
set_option maxRecDepth 8192 in
/-- `main_v24_2` after one trip, of the contents before it. -/
def step_main_v24_2 (V0 : Valuation τ sig (Elt F)) : (Proc.devRef .tc main_v24_2 : DevRef τ sig).ty.Contents (Elt F) :=
  id (addf (V0 (Proc.devRef .tc main_v24_2)) (res_main_while0b_v49 V0))
set_option maxRecDepth 8192 in
theorem step_main_v24_2_congr {V0 V0' : Valuation τ sig (Elt F)} (h : Agree V0 V0') : step_main_v24_2 V0 = step_main_v24_2 V0' := by
  unfold step_main_v24_2
  rw [res_main_while0b_v49_congr h, h main_v24_2 (by decide)]
set_option maxRecDepth 8192 in
/-- `main_v24_3` after one trip, of the contents before it. -/
def step_main_v24_3 (V0 : Valuation τ sig (Elt F)) : (Proc.devRef .tc main_v24_3 : DevRef τ sig).ty.Contents (Elt F) :=
  id (addf (addf (V0 (Proc.devRef .tc main_v24_3)) (res_main_while0b_v56 V0)) (mulf (broadcastInDim S1999x8x8 ![0, 1, 2] bcast_S1999x8x1_S1999x8x8_0_1_2 (broadcastInDim S1999x8x1 ![0, 1] bcast_S1999x8_S1999x8x1_0_1 (V0 (Proc.devRef .tc main_v24_2)))) (broadcastInDim S1999x8x8 ![0, 1, 2] bcast_S1999x1x8_S1999x8x8_0_1_2 (broadcastInDim S1999x1x8 ![0, 2] bcast_S1999x8_S1999x1x8_0_2 (res_main_while0b_v49 V0)))))
set_option maxRecDepth 8192 in
theorem step_main_v24_3_congr {V0 V0' : Valuation τ sig (Elt F)} (h : Agree V0 V0') : step_main_v24_3 V0 = step_main_v24_3 V0' := by
  unfold step_main_v24_3
  rw [res_main_while0b_v56_congr h, res_main_while0b_v49_congr h, h main_v24_3 (by decide), h main_v24_2 (by decide)]
set_option maxRecDepth 8192 in
/-- `main_v24_4` after one trip, of the contents before it. -/
def step_main_v24_4 (V0 : Valuation τ sig (Elt F)) : (Proc.devRef .tc main_v24_4 : DevRef τ sig).ty.Contents (Elt F) :=
  id (addf (addf (addf (V0 (Proc.devRef .tc main_v24_4)) (Host.divf (mulf (broadcastInDim S1999x8x8x8 ![0, 1, 2, 3] bcast_S1999x8x8x1_S1999x8x8x8_0_1_2_3 (mulf (broadcastInDim S1999x8x8x1 ![0, 1, 2, 3] bcast_S1999x8x1x1_S1999x8x8x1_0_1_2_3 (broadcastInDim S1999x8x1x1 ![0, 1] bcast_S1999x8_S1999x8x1x1_0_1 (res_main_while0b_v49 V0))) (broadcastInDim S1999x8x8x1 ![0, 1, 2, 3] bcast_S1999x1x8x1_S1999x8x8x1_0_1_2_3 (broadcastInDim S1999x1x8x1 ![0, 2] bcast_S1999x8_S1999x1x8x1_0_2 (res_main_while0b_v49 V0))))) (broadcastInDim S1999x8x8x8 ![0, 1, 2, 3] bcast_S1999x1x1x8_S1999x8x8x8_0_1_2_3 (broadcastInDim S1999x1x1x8 ![0, 3] bcast_S1999x8_S1999x1x1x8_0_3 (res_main_while0b_v49 V0)))) (broadcastInDim S1999x8x8x8 ![] bcast_S_S1999x8x8x8 (constant S_ .f32 0x40C00000#32)))) (mulf (broadcastInDim S1999x8x8x8 ![0, 1, 2, 3] bcast_S1999x8x1x1_S1999x8x8x8_0_1_2_3 (broadcastInDim S1999x8x1x1 ![0, 1] bcast_S1999x8_S1999x8x1x1_0_1 (V0 (Proc.devRef .tc main_v24_2)))) (broadcastInDim S1999x8x8x8 ![0, 1, 2, 3] bcast_S1999x1x8x8_S1999x8x8x8_0_1_2_3 (broadcastInDim S1999x1x8x8 ![0, 2, 3] bcast_S1999x8x8_S1999x1x8x8_0_2_3 (res_main_while0b_v56 V0))))) (mulf (broadcastInDim S1999x8x8x8 ![0, 1, 2, 3] bcast_S1999x8x8x1_S1999x8x8x8_0_1_2_3 (broadcastInDim S1999x8x8x1 ![0, 1, 2] bcast_S1999x8x8_S1999x8x8x1_0_1_2 (V0 (Proc.devRef .tc main_v24_3)))) (broadcastInDim S1999x8x8x8 ![0, 1, 2, 3] bcast_S1999x1x1x8_S1999x8x8x8_0_1_2_3 (broadcastInDim S1999x1x1x8 ![0, 3] bcast_S1999x8_S1999x1x1x8_0_3 (res_main_while0b_v49 V0)))))
set_option maxRecDepth 8192 in
theorem step_main_v24_4_congr {V0 V0' : Valuation τ sig (Elt F)} (h : Agree V0 V0') : step_main_v24_4 V0 = step_main_v24_4 V0' := by
  unfold step_main_v24_4
  rw [res_main_while0b_v49_congr h, res_main_while0b_v56_congr h, h main_v24_4 (by decide), h main_v24_2 (by decide), h main_v24_3 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v24_1) (step_main_v24_1 V0)) (Proc.devRef .tc main_v24_2) (step_main_v24_2 V0)) (Proc.devRef .tc main_v24_3) (step_main_v24_3 V0)) (Proc.devRef .tc main_v24_4) (step_main_v24_4 V0)

theorem STEP_main_v24_0 (V0 : Valuation τ sig (Elt F)) : STEP V0 (Proc.devRef .tc main_v24_0) = V0 (Proc.devRef .tc main_v24_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v24_1 (V0 : Valuation τ sig (Elt F)) : STEP V0 (Proc.devRef .tc main_v24_1) = step_main_v24_1 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v24_2 (V0 : Valuation τ sig (Elt F)) : STEP V0 (Proc.devRef .tc main_v24_2) = step_main_v24_2 V0 := by
  unfold STEP; rw [Function.update_of_ne (devRef_ne_of_ne (by decide))]; rw [Function.update_of_ne (devRef_ne_of_ne (by decide))]; rw [Function.update_self]
theorem STEP_main_v24_3 (V0 : Valuation τ sig (Elt F)) : STEP V0 (Proc.devRef .tc main_v24_3) = step_main_v24_3 V0 := by
  unfold STEP; rw [Function.update_of_ne (devRef_ne_of_ne (by decide))]; rw [Function.update_self]
theorem STEP_main_v24_4 (V0 : Valuation τ sig (Elt F)) : STEP V0 (Proc.devRef .tc main_v24_4) = step_main_v24_4 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v24_0 (after condOps X)).trans ((hc main_v24_0 (by decide)).trans (STEP_main_v24_0 X).symm)
  · exact (trip_main_v24_1 (after condOps X)).trans ((step_main_v24_1_congr hc).trans (STEP_main_v24_1 X).symm)
  · exact (trip_main_v24_2 (after condOps X)).trans ((step_main_v24_2_congr hc).trans (STEP_main_v24_2 X).symm)
  · exact (trip_main_v24_3 (after condOps X)).trans ((step_main_v24_3_congr hc).trans (STEP_main_v24_3 X).symm)
  · exact (trip_main_v24_4 (after condOps X)).trans ((step_main_v24_4_congr hc).trans (STEP_main_v24_4 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v24_0, STEP_main_v24_0]; exact h main_v24_0 (by decide)
  · rw [STEP_main_v24_1, STEP_main_v24_1]; exact step_main_v24_1_congr h
  · rw [STEP_main_v24_2, STEP_main_v24_2]; exact step_main_v24_2_congr h
  · rw [STEP_main_v24_3, STEP_main_v24_3]; exact step_main_v24_3_congr h
  · rw [STEP_main_v24_4, STEP_main_v24_4]; exact step_main_v24_4_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0_2, keep_main_arg1_hostOps0_1, keep_main_arg1_hostOps0]
  | k + 1 => by
    rw [show atK m (k + 1) c = afterL bodyI (after condOps (atK m k c)) from rfl]
    simp only [afterL_cons, afterL_nil]
    rw [keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0_2, keep_main_arg2_hostOps0_1, keep_main_arg2_hostOps0]
  | k + 1 => by
    rw [show atK m (k + 1) c = afterL bodyI (after condOps (atK m k c)) from rfl]
    simp only [afterL_cons, afterL_nil]
    rw [keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
theorem keep_main_arg3_hostOps0_2 (V : Valuation τ sig (Elt F)) : after hostOps0_2 V (Proc.devRef .tc main_arg3) = V (Proc.devRef .tc main_arg3) :=
  after_of_writes_sub hostOps0_2 V hostOps0_2_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_hostOps0_3 (V : Valuation τ sig (Elt F)) : after hostOps0_3 V (Proc.devRef .tc main_arg3) = V (Proc.devRef .tc main_arg3) :=
  after_of_writes_sub hostOps0_3 V hostOps0_3_writes (by decide +kernel)
theorem keep_main_arg3_hostOps0_4 (V : Valuation τ sig (Elt F)) : after hostOps0_4 V (Proc.devRef .tc main_arg3) = V (Proc.devRef .tc main_arg3) :=
  after_of_writes_sub hostOps0_4 V hostOps0_4_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0_2, keep_main_arg3_hostOps0_1, keep_main_arg3_hostOps0]
  | k + 1 => by
    rw [show atK m (k + 1) c = afterL bodyI (after condOps (atK m k c)) from rfl]
    simp only [afterL_cons, afterL_nil]
    rw [keep_main_arg3_while0Ops0_1, keep_main_arg3_while0Ops0, keep_main_arg3_condOps, atK_main_arg3 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_4, keep_main_arg0_hostOps0_3]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_4, keep_main_arg1_hostOps0_3]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_4, keep_main_arg2_hostOps0_3]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_4, keep_main_arg3_hostOps0_3]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg3 c k
set_option maxRecDepth 8192 in
/-- `main_v48`, which the operations after the loop make, of the contents they start from. -/
def out_main_v48 (V0 : Valuation τ sig (Elt F)) : (Proc.devRef .tc main_v48 : DevRef τ sig).ty.Contents (Elt F) :=
  (fun j => (Host.argReduce reducer_argmax_f32_i32 (Host.negf (subf (addf (broadcastInDim S1999x1024 ![0, 1] bcast_S1999x1_S1999x1024_0_1 (broadcastInDim S1999x1 ![0] bcast_S1999_S1999x1_0 (Host.reduceAdd (mulf (addf (Host.dotGeneral dot_S1999x584_S584x64_S1999x64_1_0_0_1_n_n none ((concatenate S1999x584 1 [⟨S1999x8, ((V0 (Proc.devRef .tc main_v24_2)) : (⟨S1999x8, .f32⟩ : BufTy).Contents (Elt F))⟩, ⟨S1999x64, ((shapeCast _ (V0 (Proc.devRef .tc main_v24_3)) shapeCasts_S1999x8x8_S1999x64) : (⟨S1999x64, .f32⟩ : BufTy).Contents (Elt F))⟩, ⟨S1999x512, ((shapeCast _ (V0 (Proc.devRef .tc main_v24_4)) shapeCasts_S1999x8x8x8_S1999x512) : (⟨S1999x512, .f32⟩ : BufTy).Contents (Elt F))⟩] concatenates_S1999x8_S1999x64_S1999x512_S1999x584_d1 : (⟨S1999x584, .f32⟩ : BufTy).Contents (Elt F))) (transpose S584x64 [1, 0] (V0 (Proc.devRef .tc main_arg1)) transposes_S64x584_S584x64_1_0)) (broadcastInDim S1999x64 ![0, 1] bcast_S1x64_S1999x64_0_1 (broadcastInDim S1x64 ![1] bcast_S64_S1x64_1 (V0 (Proc.devRef .tc main_arg2))))) (addf (Host.dotGeneral dot_S1999x584_S584x64_S1999x64_1_0_0_1_n_n none ((concatenate S1999x584 1 [⟨S1999x8, ((V0 (Proc.devRef .tc main_v24_2)) : (⟨S1999x8, .f32⟩ : BufTy).Contents (Elt F))⟩, ⟨S1999x64, ((shapeCast _ (V0 (Proc.devRef .tc main_v24_3)) shapeCasts_S1999x8x8_S1999x64) : (⟨S1999x64, .f32⟩ : BufTy).Contents (Elt F))⟩, ⟨S1999x512, ((shapeCast _ (V0 (Proc.devRef .tc main_v24_4)) shapeCasts_S1999x8x8x8_S1999x512) : (⟨S1999x512, .f32⟩ : BufTy).Contents (Elt F))⟩] concatenates_S1999x8_S1999x64_S1999x512_S1999x584_d1 : (⟨S1999x584, .f32⟩ : BufTy).Contents (Elt F))) (transpose S584x64 [1, 0] (V0 (Proc.devRef .tc main_arg1)) transposes_S64x584_S584x64_1_0)) (broadcastInDim S1999x64 ![0, 1] bcast_S1x64_S1999x64_0_1 (broadcastInDim S1x64 ![1] bcast_S64_S1x64_1 (V0 (Proc.devRef .tc main_arg2)))))) (constant S_ .f32 0x00000000#32) reducesTo_S1999x64_S1999_d1 h_S_))) (broadcastInDim S1999x1024 ![0, 1] bcast_S1x1024_S1999x1024_0_1 (broadcastInDim S1x1024 ![1] bcast_S1024_S1x1024_1 (Host.reduceAdd (mulf (V0 (Proc.devRef .tc main_arg3)) (V0 (Proc.devRef .tc main_arg3))) (constant S_ .f32 0x00000000#32) reducesTo_S1024x64_S1024_d1 h_S_)))) (mulf (broadcastInDim S1999x1024 ![] bcast_S_S1999x1024 (constant S_ .f32 0x40000000#32)) (Host.dotGeneral dot_S1999x64_S64x1024_S1999x1024_1_0_0_1_n_n none (addf (Host.dotGeneral dot_S1999x584_S584x64_S1999x64_1_0_0_1_n_n none ((concatenate S1999x584 1 [⟨S1999x8, ((V0 (Proc.devRef .tc main_v24_2)) : (⟨S1999x8, .f32⟩ : BufTy).Contents (Elt F))⟩, ⟨S1999x64, ((shapeCast _ (V0 (Proc.devRef .tc main_v24_3)) shapeCasts_S1999x8x8_S1999x64) : (⟨S1999x64, .f32⟩ : BufTy).Contents (Elt F))⟩, ⟨S1999x512, ((shapeCast _ (V0 (Proc.devRef .tc main_v24_4)) shapeCasts_S1999x8x8x8_S1999x512) : (⟨S1999x512, .f32⟩ : BufTy).Contents (Elt F))⟩] concatenates_S1999x8_S1999x64_S1999x512_S1999x584_d1 : (⟨S1999x584, .f32⟩ : BufTy).Contents (Elt F))) (transpose S584x64 [1, 0] (V0 (Proc.devRef .tc main_arg1)) transposes_S64x584_S584x64_1_0)) (broadcastInDim S1999x64 ![0, 1] bcast_S1x64_S1999x64_0_1 (broadcastInDim S1x64 ![1] bcast_S64_S1x64_1 (V0 (Proc.devRef .tc main_arg2))))) (transpose S64x1024 [1, 0] (V0 (Proc.devRef .tc main_arg3)) transposes_S1024x64_S64x1024_1_0))))) (iotaInDim S1999x1024 32 1) (constant S_ .f32 0xFF800000#32) (constantI S_ 32 0#32) reducesTo_S1999x1024_S1999_d1 h_S_ j).2)
set_option maxRecDepth 8192 in
set_option maxHeartbeats 2000000 in
theorem post_main_v48 (V0 : Valuation τ sig (Elt F)) : afterL postI V0 (no_index (Proc.devRef .tc main_v48)) = out_main_v48 V0 := by
  unfold out_main_v48
  simp only [postI, afterL_cons, afterL_nil, hostOps0_3, hostOps0_4]
  after_results_entrywise []
set_option maxRecDepth 8192 in
theorem out_main_v48_congr {V0 V0' : Valuation τ sig (Elt F)} (h : Agree V0 V0') (h_main_arg1 : V0 (Proc.devRef .tc main_arg1) = V0' (Proc.devRef .tc main_arg1)) (h_main_arg2 : V0 (Proc.devRef .tc main_arg2) = V0' (Proc.devRef .tc main_arg2)) (h_main_arg3 : V0 (Proc.devRef .tc main_arg3) = V0' (Proc.devRef .tc main_arg3)) : out_main_v48 V0 = out_main_v48 V0' := by
  unfold out_main_v48
  rw [h main_v24_2 (by decide), h main_v24_3 (by decide), h main_v24_4 (by decide), h_main_arg1, h_main_arg2, h_main_arg3]
set_option maxRecDepth 8192 in
/-- `main_v32`, which the operations after the loop make, of the contents they start from. -/
def out_main_v32 (V0 : Valuation τ sig (Elt F)) : (Proc.devRef .tc main_v32 : DevRef τ sig).ty.Contents (Elt F) :=
  addf (Host.dotGeneral dot_S1999x584_S584x64_S1999x64_1_0_0_1_n_n none ((concatenate S1999x584 1 [⟨S1999x8, ((V0 (Proc.devRef .tc main_v24_2)) : (⟨S1999x8, .f32⟩ : BufTy).Contents (Elt F))⟩, ⟨S1999x64, ((shapeCast _ (V0 (Proc.devRef .tc main_v24_3)) shapeCasts_S1999x8x8_S1999x64) : (⟨S1999x64, .f32⟩ : BufTy).Contents (Elt F))⟩, ⟨S1999x512, ((shapeCast _ (V0 (Proc.devRef .tc main_v24_4)) shapeCasts_S1999x8x8x8_S1999x512) : (⟨S1999x512, .f32⟩ : BufTy).Contents (Elt F))⟩] concatenates_S1999x8_S1999x64_S1999x512_S1999x584_d1 : (⟨S1999x584, .f32⟩ : BufTy).Contents (Elt F))) (transpose S584x64 [1, 0] (V0 (Proc.devRef .tc main_arg1)) transposes_S64x584_S584x64_1_0)) (broadcastInDim S1999x64 ![0, 1] bcast_S1x64_S1999x64_0_1 (broadcastInDim S1x64 ![1] bcast_S64_S1x64_1 (V0 (Proc.devRef .tc main_arg2))))
set_option maxRecDepth 8192 in
set_option maxHeartbeats 2000000 in
theorem post_main_v32 (V0 : Valuation τ sig (Elt F)) : afterL postI V0 (no_index (Proc.devRef .tc main_v32)) = out_main_v32 V0 := by
  unfold out_main_v32
  simp only [postI, afterL_cons, afterL_nil, hostOps0_3, hostOps0_4]
  after_results_entrywise []
set_option maxRecDepth 8192 in
theorem out_main_v32_congr {V0 V0' : Valuation τ sig (Elt F)} (h : Agree V0 V0') (h_main_arg1 : V0 (Proc.devRef .tc main_arg1) = V0' (Proc.devRef .tc main_arg1)) (h_main_arg2 : V0 (Proc.devRef .tc main_arg2) = V0' (Proc.devRef .tc main_arg2)) : out_main_v32 V0 = out_main_v32 V0' := by
  unfold out_main_v32
  rw [h main_v24_2 (by decide), h main_v24_3 (by decide), h main_v24_4 (by decide), h_main_arg1, h_main_arg2]
/-- THE RUN: on every device, for any float values, from any memory with zero counters, every weakly fair execution
    of @main terminates with each result at its component of `STEP` iterated 99 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v48) = out_main_v48 (STEP^[99] (entryContents preI m c))
      ∧ r.2.mem ((c.tc : Thread nD τ).loc main_v32) = out_main_v32 (STEP^[99] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48 rfl).trans ((post_main_v48 _).trans (out_main_v48_congr (fun j hj => (cond_keeps _ j hj).trans (atK_agree m c 99 j hj)) ((keep_main_arg1_condOps _).trans ((atK_main_arg1 m c 99).trans (iter_main_arg1 m c 99).symm)) ((keep_main_arg2_condOps _).trans ((atK_main_arg2 m c 99).trans (iter_main_arg2 m c 99).symm)) ((keep_main_arg3_condOps _).trans ((atK_main_arg3 m c 99).trans (iter_main_arg3 m c 99).symm)))),
      (h c main_v32 rfl).trans ((post_main_v32 _).trans (out_main_v32_congr (fun j hj => (cond_keeps _ j hj).trans (atK_agree m c 99 j hj)) ((keep_main_arg1_condOps _).trans ((atK_main_arg1 m c 99).trans (iter_main_arg1 m c 99).symm)) ((keep_main_arg2_condOps _).trans ((atK_main_arg2 m c 99).trans (iter_main_arg2 m c 99).symm)))),
      (h c main_arg0 rfl).trans ((post_keeps_main_arg0 _).trans ((keep_main_arg0_condOps _).trans (atK_main_arg0 m c 99))),
      (h c main_arg1 rfl).trans ((post_keeps_main_arg1 _).trans ((keep_main_arg1_condOps _).trans (atK_main_arg1 m c 99))),
      (h c main_arg2 rfl).trans ((post_keeps_main_arg2 _).trans ((keep_main_arg2_condOps _).trans (atK_main_arg2 m c 99))),
      (h c main_arg3 rfl).trans ((post_keeps_main_arg3 _).trans ((keep_main_arg3_condOps _).trans (atK_main_arg3 m c 99)))⟩) (run_fold m ρ)

end Cert.ReferenceIdeal.Value

end
-- ==== Proof.RefValue.lean ====
/- The reference's values, element by element, over the extended reals. -/
module

public import proofs.«01_k».proof.Proof.RefRun
public import proofs.«01_k».proof.Proof.Sig
public import proofs.«01_k».proof.Proof.Consts
public import Idealize.ShloMosaic.Lib.Pointwise
public import Idealize.ShloMosaic.Lib.Tactic.CleanTypes
public import Idealize.ShloMosaic.Lib.DynamicIndex

@[expose] public section

set_option maxRecDepth 16384

noncomputable section

namespace Cert.ReferenceIdeal.Value

open Idealize.ShloMosaic Idealize.ShloMosaic.TcCoe Cert.ReferenceIdeal Cert.ReferenceIdeal.Gen
open Idealize.ShloMosaic.StableHlo

variable (V : Valuation τ sig (Elt Ideal))

/-! ## The buffers of the loop, as plain arrays -/

/-- The increments of all windows, step by step. -/
def incs : FVec Ideal S99x1999x8 .f32 := V (Proc.devRef .tc main_v24_0)
/-- The trip's number. -/
def trip : IVec S_ 32 := V (Proc.devRef .tc main_v24_1)
/-- The three levels. -/
def lev1 : FVec Ideal S1999x8 .f32 := V (Proc.devRef .tc main_v24_2)
def lev2 : FVec Ideal S1999x8x8 .f32 := V (Proc.devRef .tc main_v24_3)
def lev3 : FVec Ideal S1999x8x8x8 .f32 := V (Proc.devRef .tc main_v24_4)
/-- The trip's increment of every window. -/
def inc : FVec Ideal S1999x8 .f32 := res_main_while0b_v49 V

theorem inc_apply (n : Fin 1999) (c : Fin 8) (k : Fin 99) (hk : trip V = fun _ => BitVec.ofNat 32 k.1) :
    inc V (ix2 n c) = incs V (ix3 k n c) := by
  unfold inc res_main_while0b_v49
  change (shapeCast S1999x8 (Host.dynamicSlice S1x1999x8 (incs V) (fun a => ((![trip V, constantI S_ 32 0#32, constantI S_ 32 0#32] : Fin 3 → IVec S_ 32) a (Shape.Idx.first h_S_)).toInt) sliceFits_S99x1999x8_S1x1999x8) shapeCasts_S1x1999x8_S1999x8) (ix2 n c) = _
  rw [Host.dynamicSlice_eq_extractStridedSlice S1x1999x8 (incs V) _ ![k.1, 0, 0] _
    ⟨rfl, fun a => by fin_cases a <;> simp <;> omega⟩ ?hs]
  case hs =>
    intro a
    rw [hk]
    fin_cases a
    · change (BitVec.ofNat 32 k.1).toInt = (k.1 : ℤ)
      rw [BitVec.toInt_eq_toNat_of_lt (by rw [BitVec.toNat_ofNat]; omega), BitVec.toNat_ofNat, Nat.mod_eq_of_lt (by omega)]
    · rfl
    · rfl
  pointwise []

theorem STEP_trip (k : ℕ) (hk : trip V = fun _ => BitVec.ofNat 32 k) : trip (STEP V) = fun _ => BitVec.ofNat 32 (k + 1) := by
  unfold trip at hk ⊢
  rw [STEP_main_v24_1]
  unfold step_main_v24_1
  rw [hk]
  funext j
  change BitVec.ofNat 32 k + 1#32 = BitVec.ofNat 32 (k + 1)
  rw [BitVec.ofNat_add]

theorem STEP_incs : incs (STEP V) = incs V := STEP_main_v24_0 V

theorem STEP_lev1 (n : Fin 1999) (c : Fin 8) : lev1 (STEP V) (ix2 n c) = lev1 V (ix2 n c) + inc V (ix2 n c) := by
  unfold lev1
  rw [STEP_main_v24_2]
  unfold step_main_v24_2 inc
  simp only [id]
  clean_types
  pointwise []

theorem STEP_lev2 (n : Fin 1999) (i j : Fin 8) : lev2 (STEP V) (ix3 n i j)
    = lev2 V (ix3 n i j) + Ideal.div (inc V (ix2 n i) * inc V (ix2 n j)) (Ideal.ofBits .f32 0x40000000#32)
      + lev1 V (ix2 n i) * inc V (ix2 n j) := by
  unfold lev2
  rw [STEP_main_v24_3]
  unfold step_main_v24_3 res_main_while0b_v56 inc lev1
  simp only [id]
  clean_types
  pointwise []

theorem STEP_lev3 (n : Fin 1999) (i j k : Fin 8) : lev3 (STEP V) (ix4 n i j k)
    = lev3 V (ix4 n i j k) + Ideal.div (inc V (ix2 n i) * inc V (ix2 n j) * inc V (ix2 n k)) (Ideal.ofBits .f32 0x40C00000#32)
      + lev1 V (ix2 n i) * Ideal.div (inc V (ix2 n j) * inc V (ix2 n k)) (Ideal.ofBits .f32 0x40000000#32)
      + lev2 V (ix3 n i j) * inc V (ix2 n k) := by
  unfold lev3
  rw [STEP_main_v24_4]
  unfold step_main_v24_4 res_main_while0b_v56 inc lev1 lev2
  simp only [id]
  clean_types
  pointwise []

/-! ## After the loop -/

/-- The signatures, the codes and the distances to the codebook. -/
def sigs : FVec Ideal S1999x584 .f32 :=
  concatenate S1999x584 1 [⟨S1999x8, lev1 V⟩, ⟨S1999x64, shapeCast S1999x64 (lev2 V) shapeCasts_S1999x8x8_S1999x64⟩,
    ⟨S1999x512, shapeCast S1999x512 (lev3 V) shapeCasts_S1999x8x8x8_S1999x512⟩] concatenates_S1999x8_S1999x64_S1999x512_S1999x584_d1
def weight : FVec Ideal S64x584 .f32 := V (Proc.devRef .tc main_arg1)
def bias : FVec Ideal S64 .f32 := V (Proc.devRef .tc main_arg2)
def book : FVec Ideal S1024x64 .f32 := V (Proc.devRef .tc main_arg3)
def code : FVec Ideal S1999x64 .f32 := out_main_v32 V
def token : IVec S1999 32 := out_main_v48 V

theorem code_apply (n : Fin 1999) (e : Fin 64) :
    code V (ix2 n e) = ∑ q : Fin 584, sigs V (ix2 n q) * weight V (ix2 e q) + bias V (ix1 e) := by
  unfold code out_main_v32
  clean_types
  pointwise [sigs, weight, bias, lev1, lev2, lev3]

/-- The distances, as the reference writes them. -/
def dist : FVec Ideal S1999x1024 .f32 :=
  subf (addf
    (broadcastInDim S1999x1024 ![0, 1] bcast_S1999x1_S1999x1024_0_1 (broadcastInDim S1999x1 ![0] bcast_S1999_S1999x1_0
      (Host.reduceAdd (mulf (code V) (code V)) (constant S_ .f32 0x00000000#32) reducesTo_S1999x64_S1999_d1 h_S_)))
    (broadcastInDim S1999x1024 ![0, 1] bcast_S1x1024_S1999x1024_0_1 (broadcastInDim S1x1024 ![1] bcast_S1024_S1x1024_1
      (Host.reduceAdd (mulf (book V) (book V)) (constant S_ .f32 0x00000000#32) reducesTo_S1024x64_S1024_d1 h_S_))))
    (mulf (broadcastInDim S1999x1024 ![] bcast_S_S1999x1024 (constant S_ .f32 0x40000000#32))
      (Host.dotGeneral dot_S1999x64_S64x1024_S1999x1024_1_0_0_1_n_n none (code V) (transpose S64x1024 [1, 0] (book V) transposes_S1024x64_S64x1024_1_0)))

theorem token_eq : token V = fun j => (Host.argReduce reducer_argmax_f32_i32 (Host.negf (dist V)) (iotaInDim S1999x1024 32 1)
    (constant S_ .f32 0xFF800000#32) (constantI S_ 32 0#32) reducesTo_S1999x1024_S1999_d1 h_S_ j).2 := rfl

theorem dist_apply (n : Fin 1999) (k : Fin 1024) :
    dist V (ix2 n k) = (∑ e : Fin 64, code V (ix2 n e) * code V (ix2 n e) + ∑ e : Fin 64, book V (ix2 k e) * book V (ix2 k e))
      - Ideal.ofBits .f32 0x40000000#32 * ∑ e : Fin 64, code V (ix2 n e) * book V (ix2 k e) := by
  pointwise [dist]

end Cert.ReferenceIdeal.Value

end
-- ==== Proof.RefEntry.lean ====
/- What the reference's loop starts from, element by element: the increments of every window, and zeros. -/
module

public import proofs.«01_k».proof.Proof.RefValue

@[expose] public section

set_option maxRecDepth 16384

noncomputable section

namespace Cert.ReferenceIdeal.Value

open Idealize.ShloMosaic Idealize.ShloMosaic.TcCoe Cert.ReferenceIdeal Cert.ReferenceIdeal.Gen
open Idealize.ShloMosaic.StableHlo Idealize.SL.Sem

/-- The gather of the windows read at an index: the row its index names, read signed and clamped to the table. -/
theorem gather_apply {α : Type} (x : S100000x8.Idx → α) (idx : IVec S1999x100x1 32) (n : Fin 1999) (t : Fin 100) (c : Fin 8) :
    Host.gather gather_S100000x8_S1999x100x1_S1999x100x8_2_0_n_n_0_2_18 x idx (ix3 n t c)
      = x (ix2 ⟨min (idx (ix3 n t 0)).toInt.toNat 99999, by omega⟩ c) := by
  unfold Host.gather
  congr 1
  funext a
  refine Fin.ext ?_
  change gather_S100000x8_S1999x100x1_S1999x100x8_2_0_n_n_0_2_18.start (ix3 n t c) idx a
    + gather_S100000x8_S1999x100x1_S1999x100x8_2_0_n_n_0_2_18.batchCoord (ix3 n t c) a
    + gather_S100000x8_S1999x100x1_S1999x100x8_2_0_n_n_0_2_18.offCoord (ix3 n t c) a = _
  have hb : gather_S100000x8_S1999x100x1_S1999x100x8_2_0_n_n_0_2_18.batchCoord (ix3 n t c) a = 0 :=
    GatherDims.batchCoord_eq_zero _ _ _ (by simp [gather_S100000x8_S1999x100x1_S1999x100x8_2_0_n_n_0_2_18])
  rw [hb, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S100000x8_S1999x100x1_S1999x100x8_2_0_n_n_0_2_18.startIndexMap from List.mem_singleton.mpr rfl)]
    have hsi : gather_S100000x8_S1999x100x1_S1999x100x8_2_0_n_n_0_2_18.siIdx (ix3 n t c)
        ⟨List.idxOf (0 : Fin 2) gather_S100000x8_S1999x100x1_S1999x100x8_2_0_n_n_0_2_18.startIndexMap,
          List.idxOf_lt_length_iff.2 (List.mem_singleton.mpr rfl)⟩ = ix3 n t 0 := by
      funext b; refine Fin.ext ?_
      match b with
      | ⟨0, _⟩ => rfl
      | ⟨1, _⟩ => rfl
      | ⟨2, _⟩ => rfl
    rw [hsi]
    rfl
  · have hs : gather_S100000x8_S1999x100x1_S1999x100x8_2_0_n_n_0_2_18.start (ix3 n t c) idx 1 = 0 := by
      unfold GatherDims.start
      rw [dif_neg (by simp [gather_S100000x8_S1999x100x1_S1999x100x8_2_0_n_n_0_2_18])]
    rw [hs, Nat.zero_add]
    rfl

variable (m : (ℓ : Loc nD τ sig) → Buf (Elt Ideal) ℓ) (c : Dev nD)

/-- The table of points. -/
def data : FVec Ideal S100000x8 .f32 := m ((c.tc : Thread nD τ).loc main_arg0)

theorem entry_trip : trip (entryContents preI m c) = fun _ => 0#32 := by
  unfold trip; rw [ctr_entry]; rfl

theorem entry_lev1 (n : Fin 1999) (i : Fin 8) : lev1 (entryContents preI m c) (ix2 n i) = 0 := by
  have h : (entryContents preI m c) (Proc.devRef .tc main_v24_2) = id (broadcastInDim S1999x8 ![1] bcast_S8_S1999x8_1 (broadcastInDim S8 ![] bcast_S_S8 (constant (F := Ideal) S_ .f32 0x00000000#32))) := by
    simp only [entryContents, preI, afterL_cons, afterL_nil, hostOps0, hostOps0_1, hostOps0_2]
    after_results_entrywise []
  unfold lev1
  rw [h]
  pointwise [id]

theorem entry_lev2 (n : Fin 1999) (i j : Fin 8) : lev2 (entryContents preI m c) (ix3 n i j) = 0 := by
  unfold lev2
  simp only [entryContents, preI, afterL_cons, afterL_nil, hostOps0, hostOps0_1, hostOps0_2]
  after_results_simp
  simp only [id]
  clean_types
  pointwise []

theorem entry_lev3 (n : Fin 1999) (i j k : Fin 8) : lev3 (entryContents preI m c) (ix4 n i j k) = 0 := by
  unfold lev3
  simp only [entryContents, preI, afterL_cons, afterL_nil, hostOps0, hostOps0_1, hostOps0_2]
  after_results_simp
  simp only [id]
  clean_types
  pointwise []

/-- The index words of the windows' points. -/
def windowIdx : IVec S1999x100 32 :=
  addi
    (broadcastInDim S1999x100 ![0, 1] bcast_S1999x1_S1999x100_0_1
      (broadcastInDim S1999x1 ![0] bcast_S1999_S1999x1_0
        (muli (iotaInDim S1999 32 0) (broadcastInDim S1999 ![] bcast_S_S1999 (constantI S_ 32 50#32)))))
    (broadcastInDim S1999x100 ![0, 1] bcast_S1x100_S1999x100_0_1
      (broadcastInDim S1x100 ![1] bcast_S100_S1x100_1 (iotaInDim S100 32 0)))

theorem windowIdx_apply (n : Fin 1999) (t : Fin 100) : windowIdx (ix2 n t) = BitVec.ofNat 32 (50 * n.1 + t.1) := by
  pointwise [windowIdx]
  change BitVec.ofNat 32 n.1 * BitVec.ofNat 32 50 + BitVec.ofNat 32 t.1 = _
  rw [← BitVec.ofNat_mul, ← BitVec.ofNat_add, Nat.mul_comm]

/-- The same words, a negative one moved by the table's extent. -/
def wrappedIdx : IVec S1999x100x1 32 :=
  broadcastInDim S1999x100x1 ![0, 1] bcast_S1999x100_S1999x100x1_0_1
    (select (cmpi CmpIPredicate.slt windowIdx (broadcastInDim S1999x100 ![] bcast_S_S1999x100 (constantI S_ 32 0#32)))
      (addi windowIdx (broadcastInDim S1999x100 ![] bcast_S_S1999x100 (constantI S_ 32 100000#32))) windowIdx)

theorem wrappedIdx_apply (n : Fin 1999) (t : Fin 100) : (wrappedIdx (ix3 n t 0)).toInt = (50 * n.1 + t.1 : ℕ) := by
  have h : wrappedIdx (ix3 n t 0) = if (windowIdx (ix2 n t)).slt 0#32 = true then windowIdx (ix2 n t) + 100000#32 else windowIdx (ix2 n t) := by
    pointwise [wrappedIdx]
    generalize windowIdx (ix2 n t) = w
    unfold Scalar.select IntOp.cmpi IntOp.addi
    cases h : w.slt 0#32 <;> simp [h]
  have ht : (BitVec.ofNat 32 (50 * n.1 + t.1)).toInt = (50 * n.1 + t.1 : ℕ) := by
    rw [BitVec.toInt_eq_toNat_of_lt (by rw [BitVec.toNat_ofNat, Nat.mod_eq_of_lt (by omega)]; omega), BitVec.toNat_ofNat, Nat.mod_eq_of_lt (by omega)]
  rw [h, windowIdx_apply, if_neg, ht]
  rw [BitVec.slt_iff_toInt_lt, ht]
  simp
  omega

/-- The windows' points. -/
def windows (x : FVec Ideal S100000x8 .f32) : FVec Ideal S1999x100x8 .f32 :=
  Host.gather gather_S100000x8_S1999x100x1_S1999x100x8_2_0_n_n_0_2_18 x wrappedIdx

theorem windows_apply (x : FVec Ideal S100000x8 .f32) (n : Fin 1999) (t : Fin 100) (i : Fin 8) :
    windows x (ix3 n t i) = x (ix2 ⟨50 * n.1 + t.1, by omega⟩ i) := by
  unfold windows
  rw [gather_apply]
  congr 2
  apply Fin.ext
  simp only [wrappedIdx_apply]
  omega

theorem entry_incs_eq : incs (entryContents preI m c) =
    transpose S99x1999x8 [1, 0, 2] (subf
      (extractStridedSlice S1999x99x8 ![0, 1, 0] (windows (data m c)) slices_S1999x100x8_S1999x99x8_0_1_0)
      (extractStridedSlice S1999x99x8 ![0, 0, 0] (windows (data m c)) slices_S1999x100x8_S1999x99x8_0_0_0))
      transposes_S1999x99x8_S99x1999x8_1_0_2 := by
  unfold incs
  simp only [entryContents, preI, afterL_cons, afterL_nil, hostOps0, hostOps0_1, hostOps0_2]
  after_results_simp
  rfl

theorem entry_incs (k : Fin 99) (n : Fin 1999) (i : Fin 8) : incs (entryContents preI m c) (ix3 k n i)
    = data m c (ix2 ⟨50 * n.1 + k.1 + 1, by omega⟩ i) - data m c (ix2 ⟨50 * n.1 + k.1, by omega⟩ i) := by
  rw [entry_incs_eq]
  have h : ∀ W : FVec Ideal S1999x100x8 .f32, (transpose S99x1999x8 [1, 0, 2] (subf
      (extractStridedSlice S1999x99x8 ![0, 1, 0] W slices_S1999x100x8_S1999x99x8_0_1_0)
      (extractStridedSlice S1999x99x8 ![0, 0, 0] W slices_S1999x100x8_S1999x99x8_0_0_0))
      transposes_S1999x99x8_S99x1999x8_1_0_2) (ix3 k n i) = W (ix3 n ⟨1 + k.1, by omega⟩ i) - W (ix3 n ⟨k.1, by omega⟩ i) := by
    intro W
    pointwise []
  rw [h, windows_apply, windows_apply]
  congr 4
  change 50 * n.1 + (1 + k.1) = 50 * n.1 + k.1 + 1
  omega

end Cert.ReferenceIdeal.Value

end
-- ==== Proof.RefLoop.lean ====
/- The reference's loop computes the signature of every window, where the data are real numbers. -/
module

public import proofs.«01_k».proof.Proof.RefEntry

@[expose] public section

set_option maxRecDepth 16384

noncomputable section

namespace Cert.ReferenceIdeal.Value

open Idealize.ShloMosaic Idealize.ShloMosaic.TcCoe Cert.ReferenceIdeal Cert.ReferenceIdeal.Gen
open Idealize.ShloMosaic.StableHlo Idealize.SL.Sem

variable (m : (ℓ : Loc nD τ sig) → Buf (Elt Ideal) ℓ) (c : Dev nD)

/-- The buffers after `T` trips. -/
def after (T : ℕ) : Valuation τ sig (Elt Ideal) := STEP^[T] (entryContents preI m c)

theorem after_succ (T : ℕ) : after m c (T + 1) = STEP (after m c T) := Function.iterate_succ_apply' _ _ _

theorem after_trip (T : ℕ) : trip (after m c T) = fun _ => BitVec.ofNat 32 T := by
  induction T with
  | zero => exact entry_trip m c
  | succ T ih => rw [after_succ]; exact STEP_trip _ T ih

theorem after_incs (T : ℕ) : incs (after m c T) = incs (entryContents preI m c) := by
  induction T with
  | zero => rfl
  | succ T ih => rw [after_succ, STEP_incs, ih]

variable (d : ℕ → ℕ → ℝ) (hd : ∀ r i, data m c (ix2 r i) = (d r.1 i.1 : EReal))
include hd

theorem after_inc (T : Fin 99) (n : Fin 1999) (i : Fin 8) :
    inc (after m c T.1) (ix2 n i) = (Sig.vel (Sig.path d n.1) T.1 i.1 : EReal) := by
  rw [inc_apply _ n i T (after_trip m c T.1), after_incs, entry_incs, hd, hd, ← EReal.coe_sub]
  rfl

theorem after_levels (T : ℕ) (hT : T ≤ 99) (n : Fin 1999) :
    (∀ i : Fin 8, lev1 (after m c T) (ix2 n i) = (Sig.s1 (Sig.path d n.1) T i.1 : EReal))
    ∧ (∀ i j : Fin 8, lev2 (after m c T) (ix3 n i j) = (Sig.s2 (Sig.path d n.1) T i.1 j.1 : EReal))
    ∧ (∀ i j k : Fin 8, lev3 (after m c T) (ix4 n i j k) = (Sig.s3 (Sig.path d n.1) T i.1 j.1 k.1 : EReal)) := by
  induction T with
  | zero =>
    simp only [Sig.s1_zero, Sig.s2_zero, Sig.s3_zero, EReal.coe_zero]
    exact ⟨fun i => entry_lev1 m c n i, fun i j => entry_lev2 m c n i j, fun i j k => entry_lev3 m c n i j k⟩
  | succ T ih =>
    obtain ⟨h1, h2, h3⟩ := ih (by omega)
    have hi : ∀ i : Fin 8, inc (after m c T) (ix2 n i) = (Sig.vel (Sig.path d n.1) T i.1 : EReal) :=
      fun i => after_inc m c d hd ⟨T, by omega⟩ n i
    rw [after_succ]
    refine ⟨fun i => ?_, fun i j => ?_, fun i j k => ?_⟩
    · rw [STEP_lev1, h1, hi, Sig.s1_succ, EReal.coe_add]
    · rw [STEP_lev2, h1, h2, hi, hi, Sig.s2_succ, ← EReal.coe_mul, Consts.div_two, ← EReal.coe_mul, ← EReal.coe_add, ← EReal.coe_add]
    · rw [STEP_lev3, h1, h2, h3, hi, hi, hi, Sig.s3_succ, ← EReal.coe_mul, ← EReal.coe_mul, Consts.div_six, ← EReal.coe_mul,
        Consts.div_two, ← EReal.coe_mul, ← EReal.coe_mul, ← EReal.coe_add, ← EReal.coe_add, ← EReal.coe_add]

theorem after_sigs (n : Fin 1999) (q : Fin 584) :
    sigs (after m c 99) (ix2 n q) = (Sig.sig (Sig.path d n.1) q.1 : EReal) := by
  obtain ⟨h1, h2, h3⟩ := after_levels m c d hd 99 le_rfl n
  generalize after m c 99 = V at *
  unfold sigs
  generalize lev1 V = a1 at *
  generalize lev2 V = a2 at *
  generalize lev3 V = a3 at *
  unfold Sig.sig
  by_cases hq : q.1 < 8
  · rw [if_pos hq, ← h1 ⟨q.1, hq⟩]
    pointwise []
    rw [dif_pos hq]
  · rw [if_neg hq]
    by_cases hq' : q.1 < 72
    · rw [if_pos hq', ← h2 ⟨(q.1 - 8) / 8, by omega⟩ ⟨(q.1 - 8) % 8, by omega⟩]
      pointwise []
      rw [dif_neg hq, dif_pos (by omega)]
    · rw [if_neg hq', ← h3 ⟨(q.1 - 72) / 64, by omega⟩ ⟨(q.1 - 72) / 8 % 8, by omega⟩ ⟨(q.1 - 72) % 8, by omega⟩]
      pointwise []
      rw [dif_neg hq, dif_neg (by omega)]
      simp only [Nat.sub_sub, Nat.reduceAdd]

end Cert.ReferenceIdeal.Value

end
-- ==== Proof.RefToken.lean ====
/- The reference's token is the least index at which the distance is least. -/
module

public import proofs.«01_k».proof.Proof.RefValue
public import proofs.«01_k».proof.Proof.ArgMin
public import Idealize.ShloMosaic.PureOps.Ideal.Laws

@[expose] public section

set_option maxRecDepth 16384

noncomputable section

namespace Cert.ReferenceIdeal.Value

open Idealize.ShloMosaic Idealize.ShloMosaic.TcCoe Cert.ReferenceIdeal Cert.ReferenceIdeal.Gen
open Idealize.ShloMosaic.StableHlo Idealize.SL.Sem

/-- The reducer: the greater value, and of equal ones the lower index. -/
theorem reducer_eq (a b : EReal × BitVec 32) : reducer_argmax_f32_i32 (F := Ideal) a b
    = if b.1 < a.1 ∨ (a.1 = b.1 ∧ a.2.toInt < b.2.toInt) then a else if a.1 = b.1 then (b.1, b.2) else b := by
  obtain ⟨a1, a2⟩ := a
  obtain ⟨b1, b2⟩ := b
  unfold reducer_argmax_f32_i32
  simp only [FloatOps.cmpf, Ideal.cmp, IntOp.ori, IntOp.andi, IntOp.cmpi, Scalar.select, BitVec.slt]
  by_cases h1 : b1 < a1
  · cases h : (decide (a1 = b1) && decide (a2.toInt < b2.toInt)) <;> simp [h1, h]
  · by_cases h2 : a1 = b1
    · subst h2
      by_cases h3 : a2.toInt < b2.toInt <;> simp [h3]
    · simp [h1, h2]

theorem mem_fiber {α β : Type} (x : S1999x1024.Idx → α) (y : S1999x1024.Idx → β) (n : Fin 1999) (p : α × β) :
    p ∈ Host.argReduceFiber x y reducesTo_S1999x1024_S1999_d1 (ix1 n) ↔ ∃ k : Fin 1024, p = (x (ix2 n k), y (ix2 n k)) := by
  have hdrop : ∀ i : S1999x1024.Idx, reducesTo_S1999x1024_S1999_d1.drop i = ix1 n ↔ (i 0).1 = n.1 := by
    intro i
    have hv : (reducesTo_S1999x1024_S1999_d1.drop i 0 : Nat) = i 0 := Shape.ReducesTo.drop_apply_val _ i 0
    constructor
    · intro h; rw [← hv, h]; rfl
    · intro h
      funext b
      obtain rfl : b = 0 := Subsingleton.elim _ _
      exact Fin.ext (hv.trans h)
  unfold Host.argReduceFiber
  rw [List.mem_map]
  constructor
  · rintro ⟨r, hr, rfl⟩
    have h := (hdrop _).1 (of_decide_eq_true (List.mem_filter.1 hr).2)
    generalize S1999x1024.rowMajor.symm r = i at *
    refine ⟨i 1, ?_⟩
    have e : i = ix2 n (i 1) := by
      funext a
      match a with
      | ⟨0, _⟩ => exact Fin.ext h
      | ⟨1, _⟩ => rfl
    exact congrArg (fun i => (x i, y i)) e
  · rintro ⟨k, rfl⟩
    refine ⟨S1999x1024.rowMajor (ix2 n k), List.mem_filter.2 ⟨List.mem_finRange _, ?_⟩, ?_⟩
    · rw [decide_eq_true_iff, Equiv.symm_apply_apply, hdrop]; rfl
    · rw [Equiv.symm_apply_apply]

theorem token_apply (V : Valuation τ sig (Elt Ideal)) (n : Fin 1999) (k : Fin 1024)
    (hk : ArgMin.IsLeast (fun j => dist V (ix2 n j)) k) : token V (ix1 n) = BitVec.ofNat 32 k.1 := by
  rw [token_eq]
  change (Host.argReduce _ _ _ _ _ _ _ (ix1 n)).2 = _
  rw [Idealize.ShloMosaic.Ideal.argReduce_eq_reduce2, Host.reduce2_eq_foldl_fiber]
  generalize dist V = D at *
  have hx : ∀ j : Fin 1024, (Host.negf D (ix2 n j) : EReal) = - D (ix2 n j) := fun j => rfl
  have hy : ∀ j : Fin 1024, iotaInDim S1999x1024 32 1 (ix2 n j) = BitVec.ofNat 32 j.1 := fun j => rfl
  have hbot : ∀ j, (constant (F := Ideal) S_ .f32 0xFF800000#32 j : EReal) = ⊥ := fun j => Consts.bot_eq
  have hzero : ∀ j, constantI S_ 32 0#32 j = 0#32 := fun j => rfl
  have hto : ∀ j : Fin 1024, (BitVec.ofNat 32 j.1).toInt = (j.1 : ℤ) := fun j => by
    rw [BitVec.toInt_eq_toNat_of_lt (by rw [BitVec.toNat_ofNat, Nat.mod_eq_of_lt (by omega)]; omega), BitVec.toNat_ofNat, Nat.mod_eq_of_lt (by omega)]
  rw [hbot, hzero]
  obtain ⟨h1, h2, h3⟩ := ArgMin.second (reducer_argmax_f32_i32 (F := Ideal)) reducer_eq
    (Host.argReduceFiber (Host.negf D) (iotaInDim S1999x1024 32 1) reducesTo_S1999x1024_S1999_d1 (ix1 n)) (⊥, 0#32)
  have hmem : ∀ j : Fin 1024, ((- D (ix2 n j), BitVec.ofNat 32 j.1) : EReal × BitVec 32) ∈
      Host.argReduceFiber (Host.negf D) (iotaInDim S1999x1024 32 1) reducesTo_S1999x1024_S1999_d1 (ix1 n) :=
    fun j => (mem_fiber _ _ n _).2 ⟨j, rfl⟩
  change (List.foldl (reducer_argmax_f32_i32 (F := Ideal)) ((⊥, 0#32) : EReal × BitVec 32) _).2 = _
  generalize List.foldl (reducer_argmax_f32_i32 (F := Ideal)) ((⊥, 0#32) : EReal × BitVec 32) (Host.argReduceFiber (Host.negf D) (iotaInDim S1999x1024 32 1) reducesTo_S1999x1024_S1999_d1 (ix1 n)) = r at *
  -- the result is the pair of some index
  have hr : ∃ j : Fin 1024, r = (- D (ix2 n j), BitVec.ofNat 32 j.1) := by
    rcases List.mem_cons.1 h1 with h | h
    · refine ⟨0, ?_⟩
      have := h2 _ (List.mem_cons_of_mem _ (hmem 0))
      rw [h] at this ⊢
      exact Prod.ext (le_bot_iff.1 this).symm rfl
    · obtain ⟨j, hj⟩ := (mem_fiber _ _ n _).1 h
      exact ⟨j, hj⟩
  obtain ⟨j, rfl⟩ := hr
  have hj : ∀ i, D (ix2 n j) ≤ D (ix2 n i) := fun i =>
    EReal.neg_le_neg_iff.1 (h2 _ (List.mem_cons_of_mem _ (hmem i)))
  have hkj : k ≤ j := hk.2 j hj
  have hjk : j ≤ k := by
    have := h3 _ (List.mem_cons_of_mem _ (hmem k)) (congrArg Neg.neg (le_antisymm (hk.1 j) (hj k)))
    rw [hto, hto] at this
    exact_mod_cast this
  rw [le_antisymm hjk hkj]

end Cert.ReferenceIdeal.Value

end
-- ==== Proof.RefResult.lean ====
/- The reference's results, in terms of the arguments, where the data are real numbers. -/
module

public import proofs.«01_k».proof.Proof.RefLoop
public import proofs.«01_k».proof.Proof.RefToken
public import proofs.«01_k».proof.Proof.Spec

@[expose] public section

set_option maxRecDepth 16384

noncomputable section

namespace Cert.ReferenceIdeal.Value

open Idealize.ShloMosaic Idealize.ShloMosaic.TcCoe Cert.ReferenceIdeal Cert.ReferenceIdeal.Gen
open Idealize.ShloMosaic.StableHlo Idealize.SL.Sem

variable (m : (ℓ : Loc nD τ sig) → Buf (Elt Ideal) ℓ) (c : Dev nD)

/-- The other arguments, by coordinates. -/
def weightAt (e : Fin 64) (q : Fin 584) : EReal := m ((c.tc : Thread nD τ).loc main_arg1) (ix2 e q)
def biasAt (e : Fin 64) : EReal := m ((c.tc : Thread nD τ).loc main_arg2) (ix1 e)
def bookAt (k : Fin 1024) (e : Fin 64) : EReal := m ((c.tc : Thread nD τ).loc main_arg3) (ix2 k e)

theorem after_weight (T : ℕ) (e : Fin 64) (q : Fin 584) : weight (after m c T) (ix2 e q) = weightAt m c e q :=
  congrFun (iter_main_arg1 m c T) _
theorem after_bias (T : ℕ) (e : Fin 64) : bias (after m c T) (ix1 e) = biasAt m c e :=
  congrFun (iter_main_arg2 m c T) _
theorem after_book (T : ℕ) (k : Fin 1024) (e : Fin 64) : book (after m c T) (ix2 k e) = bookAt m c k e :=
  congrFun (iter_main_arg3 m c T) _

variable (d : ℕ → ℕ → ℝ) (hd : ∀ r i, data m c (ix2 r i) = (d r.1 i.1 : EReal))
include hd

theorem final_code (n : Fin 1999) (e : Fin 64) : code (after m c 99) (ix2 n e) = Spec.code d (weightAt m c) (biasAt m c) n.1 e := by
  have hs : ∀ q : Fin 584, sigs (after m c 99) (ix2 n q) * weight (after m c 99) (ix2 e q)
      = (Sig.sig (Sig.path d n.1) q.1 : EReal) * weightAt m c e q := fun q => by
    rw [after_sigs m c d hd, after_weight]
  unfold Spec.code
  rw [code_apply, after_bias, Finset.sum_congr rfl fun q _ => hs q]

theorem final_token (n : Fin 1999) : token (after m c 99) (ix1 n) = Spec.token d (weightAt m c) (biasAt m c) (bookAt m c) n.1 := by
  refine token_apply _ n _ ?_
  have e : (fun j => dist (after m c 99) (ix2 n j)) = Spec.dist (Spec.code d (weightAt m c) (biasAt m c) n.1) (bookAt m c) := by
    funext k
    rw [dist_apply]
    simp only [final_code m c d hd, after_book]
    rfl
  rw [e]
  exact Spec.nearest_isLeast _ _

theorem result_code : out_main_v32 (STEP^[99] (entryContents preI m c))
    = fun j : S1999x64.Idx => Spec.code d (weightAt m c) (biasAt m c) (j 0).1 (j 1) := by
  funext j
  obtain ⟨n, e, rfl⟩ : ∃ (n : Fin 1999) (e : Fin 64), j = (ix2 n e : S1999x64.Idx) := ⟨j 0, j 1, by funext a; match a with | ⟨0, _⟩ => rfl | ⟨1, _⟩ => rfl⟩
  exact final_code m c d hd n e

theorem result_token : out_main_v48 (STEP^[99] (entryContents preI m c))
    = fun j : S1999.Idx => Spec.token d (weightAt m c) (biasAt m c) (bookAt m c) (j 0).1 := by
  funext j
  obtain ⟨n, rfl⟩ : ∃ n : Fin 1999, j = (ix1 n : S1999.Idx) := ⟨j 0, by funext a; match a with | ⟨0, _⟩ => rfl⟩
  exact final_token m c d hd n

end Cert.ReferenceIdeal.Value

end
-- ==== Proof.Finite.lean ====
/- The precondition makes the data real numbers. -/
module

public import proofs.«01_k».proof.Defs
public import proofs.«01_k».proof.Proof.KernelRun

@[expose] public section

set_option maxRecDepth 16384

noncomputable section

namespace Cert.KernelIdeal.Value

open Idealize.ShloMosaic Idealize.ShloMosaic.TcCoe Cert.KernelIdeal Cert.KernelIdeal.Gen Idealize.SL.Sem

theorem preFacts : Cert.Pre_finite_data.Facts := ⟨by decide⟩

/-- An extended real whose absolute value is below `⊤` is a real number. -/
theorem coe_toReal_of_abs_lt (x : EReal) (h : max x (-x) < ⊤) : ((x.toReal : ℝ) : EReal) = x := by
  refine EReal.coe_toReal (fun e => ?_) (fun e => ?_)
  · rw [e] at h; simp at h
  · rw [e] at h; simp at h

theorem exists_holds (m : (ℓ : Loc nD τ sig) → Buf (Elt Ideal) ℓ)
    (hpre : Cert.Pre_KernelIdeal_finite_data (hPre_finite_data := preFacts) m) (c : Dev nD) : ∃ d : ℕ → ℕ → ℝ, Holds m c d := by
  have hlt : ∀ (r : Fin 100000) (i : Fin 8), max (data m c (ix2 r i)) (-(data m c (ix2 r i))) < ⊤ := by
    intro r i
    have h := congrFun (hpre c) (ix2 r i)
    unfold Cert.Pre_finite_data.fn at h
    have h' : BitVec.ofBool (decide (max (data m c (ix2 r i)) (-(data m c (ix2 r i))) < Ideal.ofBits .f32 0x7F800000#32)) = 1#1 := h
    rw [Consts.top_eq] at h'
    by_contra hn
    rw [decide_eq_false hn] at h'
    exact absurd h' (by decide)
  refine ⟨fun r i => if h : r < 100000 ∧ i < 8 then (data m c (ix2 ⟨r, h.1⟩ ⟨i, h.2⟩)).toReal else 0, ?_, ?_⟩
  · intro r i
    rw [dif_pos ⟨r.2, i.2⟩]
    exact (coe_toReal_of_abs_lt _ (hlt r i)).symm
  · intro r i h
    rw [dif_neg (by omega)]

end Cert.KernelIdeal.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.RefResult
public import proofs.«01_k».proof.Proof.Finite
public import Idealize.ShloMosaic.Lib.Quiescent
public import Idealize.ShloMosaic.Lib.Pointwise
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments alone, and has no semaphore whose counter could differ from zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run _ _ _).mono (fun r h => ⟨fun c => (h c).2.2, sem_eq_zero_of_no_sems (by decide) r.2⟩) (ReferenceIdeal.Value.run m g)

theorem algebraic : Cert.algebraic_KernelIdeal_ReferenceIdeal_pre_finite_data (hKernelIdeal := KernelIdeal.Gen.facts)
    (hReferenceIdeal := ReferenceIdeal.Gen.facts) (hPre_finite_data := KernelIdeal.Value.preFacts) := by
  intro m g m' g' hpre hagree
  choose d hd using KernelIdeal.Value.exists_holds m hpre
  refine ⟨_, _, KernelIdeal.Value.run g d hd, ?_⟩
  refine (θ_run _ _ _).mono (fun r h c => ?_) (ReferenceIdeal.Value.run m' g')
  obtain ⟨h0, h1, h2, h3⟩ := hagree c
  have hdata : ∀ r i, ReferenceIdeal.Value.data m' c (ix2 r i) = (d c r.1 i.1 : EReal) := fun r i =>
    (congrFun h0 (ix2 r i)).trans ((hd c).inside r i)
  have ew : ReferenceIdeal.Value.weightAt m' c = KernelIdeal.Value.weight m c := funext fun e => funext fun q => congrFun h1 (ix2 e q)
  have eb : ReferenceIdeal.Value.biasAt m' c = KernelIdeal.Value.bias m c := funext fun e => congrFun h2 (ix1 e)
  have ek : ReferenceIdeal.Value.bookAt m' c = KernelIdeal.Value.book m c := funext fun k => funext fun e => congrFun h3 (ix2 k e)
  obtain ⟨r0, r1, ha⟩ := h c
  refine ⟨r0.trans ((ReferenceIdeal.Value.result_token m' c (d c) hdata).trans ?_),
    r1.trans ((ReferenceIdeal.Value.result_code m' c (d c) hdata).trans ?_), ha⟩
  · rw [ew, eb, ek]
  · rw [ew, eb]

theorem claim : Cert.Claim :=
  ⟨Cert.Kernel.Gen.facts, Cert.KernelIdeal.Gen.facts, Cert.ReferenceIdeal.Gen.facts, KernelIdeal.Value.preFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial, algebraic⟩

end Cert.Proof

end
